-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S1 : Shape := ⟨1, ![1]⟩
abbrev S4096x1024 : Shape := ⟨2, ![4096, 1024]⟩
abbrev S4096x512 : Shape := ⟨2, ![4096, 512]⟩
abbrev S2x512x1024 : Shape := ⟨3, ![2, 512, 1024]⟩
abbrev S2 : Shape := ⟨1, ![2]⟩
abbrev S8 : Shape := ⟨1, ![8]⟩
abbrev S_ : Shape := ⟨0, ![]⟩
abbrev S512x512 : Shape := ⟨2, ![512, 512]⟩
abbrev S1x512x1024 : Shape := ⟨3, ![1, 512, 1024]⟩
abbrev S512x1024 : Shape := ⟨2, ![512, 1024]⟩
abbrev S1x512x512 : Shape := ⟨3, ![1, 512, 512]⟩

abbrev nBuf : Space → Nat
  | .hbm => 5
  | .vmem => 6
  | .smem => 2
  | _ => 0

abbrev bufTy : (tb : Table) → Fin (tcTables nBuf tb) → BufTy
  | .hbm, ⟨0, _⟩ => ⟨S512x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S512x4096, .fp8e4m3⟩
  | .local _ .vmem, ⟨1, _⟩ => ⟨S4096x512, .fp8e4m3⟩
  | .local _ .vmem, ⟨2, _⟩ => ⟨S4096x512, .fp8e4m3⟩
  | .local _ .vmem, ⟨3, _⟩ => ⟨S4096x1024, .f32⟩
  | .local _ .vmem, ⟨4, _⟩ => ⟨S512x4096, .fp8e4m3⟩
  | .local _ .vmem, ⟨5, _⟩ => ⟨S2x512x1024, .f32⟩
  | .local _ .smem, ⟨0, _⟩ => ⟨S1, .f32⟩
  | .local _ .smem, ⟨1, _⟩ => ⟨S1, .f32⟩
  | _, _ => ⟨S512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev barrier0 : Sem sig := 0

abbrev nD : Nat := 8
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_12 : BitVec 32 := 0#32
  let v33 : BitVec 1 := Scalar.cmpi .eq arg0 c0_i32_12
  let v34 : BitVec 32 := Scalar.extui v33
  let c0_i32_13 : BitVec 32 := 0#32
  let v35 : BitVec 1 := Scalar.cmpi .ne v34 c0_i32_13
  v35

def k0_dev1 : Nat :=
  let c0_i32_34 : BitVec 32 := 0#32
  let c0_i32_32 : BitVec 32 := 0#32
  let c1_i32_33 : BitVec 32 := 1#32
  let v68 : BitVec 32 := Scalar.muli c0_i32_32 c1_i32_33
  let v69 : BitVec 32 := Scalar.addi c0_i32_34 v68
  v69.toNat
def k0_dev2 : Nat :=
  let c0_i32_38 : BitVec 32 := 0#32
  let c1_i32_36 : BitVec 32 := 1#32
  let c1_i32_37 : BitVec 32 := 1#32
  let v70 : BitVec 32 := Scalar.muli c1_i32_36 c1_i32_37
  let v71 : BitVec 32 := Scalar.addi c0_i32_38 v70
  v71.toNat
def k0_dev3 : Nat :=
  let c0_i32_42 : BitVec 32 := 0#32
  let c2_i32_40 : BitVec 32 := 2#32
  let c1_i32_41 : BitVec 32 := 1#32
  let v72 : BitVec 32 := Scalar.muli c2_i32_40 c1_i32_41
  let v73 : BitVec 32 := Scalar.addi c0_i32_42 v72
  v73.toNat
def k0_dev4 : Nat :=
  let c0_i32_45 : BitVec 32 := 0#32
  let c3_i32 : BitVec 32 := 3#32
  let c1_i32_44 : BitVec 32 := 1#32
  let v74 : BitVec 32 := Scalar.muli c3_i32 c1_i32_44
  let v75 : BitVec 32 := Scalar.addi c0_i32_45 v74
  v75.toNat
def k0_dev5 : Nat :=
  let c0_i32_48 : BitVec 32 := 0#32
  let c4_i32 : BitVec 32 := 4#32
  let c1_i32_47 : BitVec 32 := 1#32
  let v76 : BitVec 32 := Scalar.muli c4_i32 c1_i32_47
  let v77 : BitVec 32 := Scalar.addi c0_i32_48 v76
  v77.toNat
def k0_dev6 : Nat :=
  let c0_i32_51 : BitVec 32 := 0#32
  let c5_i32 : BitVec 32 := 5#32
  let c1_i32_50 : BitVec 32 := 1#32
  let v78 : BitVec 32 := Scalar.muli c5_i32 c1_i32_50
  let v79 : BitVec 32 := Scalar.addi c0_i32_51 v78
  v79.toNat
def k0_dev7 : Nat :=
  let c0_i32_54 : BitVec 32 := 0#32
  let c6_i32 : BitVec 32 := 6#32
  let c1_i32_53 : BitVec 32 := 1#32
  let v80 : BitVec 32 := Scalar.muli c6_i32 c1_i32_53
  let v81 : BitVec 32 := Scalar.addi c0_i32_54 v80
  v81.toNat
def k0_dev8 : Nat :=
  let c0_i32_57 : BitVec 32 := 0#32
  let c7_i32 : BitVec 32 := 7#32
  let c1_i32_56 : BitVec 32 := 1#32
  let v82 : BitVec 32 := Scalar.muli c7_i32 c1_i32_56
  let v83 : BitVec 32 := Scalar.addi c0_i32_57 v82
  v83.toNat
def k0_cond3 (i : grid0.Coords) (d0 : Dev nD) : BitVec 1 :=
  let arg0 : BitVec 32 := BitVec.ofNat 32 (i 0).val
  let c0_i32 : BitVec 32 := 0#32
  let v4 : BitVec 1 := Scalar.cmpi .sgt arg0 c0_i32
  let v5 : BitVec 32 := Scalar.extui v4
  let c0_i32_0 : BitVec 32 := 0#32
  let v6 : BitVec 1 := Scalar.cmpi .slt arg0 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi arg0 c2_i32
  let c0_i32_3 : BitVec 32 := 0#32
  let v16 : BitVec 1 := Scalar.cmpi .ne v15 c0_i32_3
  let v17 : BitVec 1 := Scalar.andi v14 v16
  let v3 : BitVec 32 := Scalar.divsi arg0 c2_i32
  let c1_i32_4 : BitVec 32 := 1#32
  let v18 : BitVec 32 := Scalar.subi v3 c1_i32_4
  let v19 : BitVec 32 := Scalar.select v17 v18 v3
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v45 : BitVec 1 := Scalar.cmpi .eq v19 v2
  let v59 : BitVec 32 := Scalar.extui v45
  let c0_i32_28 : BitVec 32 := 0#32
  let v60 : BitVec 1 := Scalar.cmpi .ne v59 c0_i32_28
  v60

def k0_off1 (i : grid0.Coords) (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v67 : BitVec 32 := Scalar.muli v2 c512_i32
  let v69 : Index := Scalar.indexCast v67
  let arg0 : BitVec 32 := BitVec.ofNat 32 (i 0).val
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi arg0 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c512_i32_31 : BitVec 32 := 512#32
  let v68 : BitVec 32 := Scalar.muli v29 c512_i32_31
  let v70 : Index := Scalar.indexCast v68
  ![v69.toNat, v70.toNat]
def k0_cond4 (i : grid0.Coords) (d0 : Dev nD) : BitVec 1 :=
  let arg0 : BitVec 32 := BitVec.ofNat 32 (i 0).val
  let c0_i32 : BitVec 32 := 0#32
  let v4 : BitVec 1 := Scalar.cmpi .sgt arg0 c0_i32
  let v5 : BitVec 32 := Scalar.extui v4
  let c0_i32_0 : BitVec 32 := 0#32
  let v6 : BitVec 1 := Scalar.cmpi .slt arg0 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi arg0 c2_i32
  let c0_i32_3 : BitVec 32 := 0#32
  let v16 : BitVec 1 := Scalar.cmpi .ne v15 c0_i32_3
  let v17 : BitVec 1 := Scalar.andi v14 v16
  let v3 : BitVec 32 := Scalar.divsi arg0 c2_i32
  let c1_i32_4 : BitVec 32 := 1#32
  let v18 : BitVec 32 := Scalar.subi v3 c1_i32_4
  let v19 : BitVec 32 := Scalar.select v17 v18 v3
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v45 : BitVec 1 := Scalar.cmpi .eq v19 v2
  let v_true : BitVec 1 := 1#1
  let v61 : BitVec 1 := Scalar.xori v45 v_true
  let v62 : BitVec 32 := Scalar.extui v61
  let c0_i32_29 : BitVec 32 := 0#32
  let v63 : BitVec 1 := Scalar.cmpi .ne v62 c0_i32_29
  v63

def k0_cond5 (i : grid0.Coords) (d0 : Dev nD) : BitVec 1 :=
  let arg0 : BitVec 32 := BitVec.ofNat 32 (i 0).val
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi arg0 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v67 : BitVec 1 := Scalar.cmpi .eq v29 c0_i32_31
  let c0_i32 : BitVec 32 := 0#32
  let v4 : BitVec 1 := Scalar.cmpi .sgt arg0 c0_i32
  let v5 : BitVec 32 := Scalar.extui v4
  let c0_i32_0 : BitVec 32 := 0#32
  let v6 : BitVec 1 := Scalar.cmpi .slt arg0 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi arg0 c2_i32
  let c0_i32_3 : BitVec 32 := 0#32
  let v16 : BitVec 1 := Scalar.cmpi .ne v15 c0_i32_3
  let v17 : BitVec 1 := Scalar.andi v14 v16
  let v3 : BitVec 32 := Scalar.divsi arg0 c2_i32
  let c1_i32_4 : BitVec 32 := 1#32
  let v18 : BitVec 32 := Scalar.subi v3 c1_i32_4
  let v19 : BitVec 32 := Scalar.select v17 v18 v3
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v46 : BitVec 1 := Scalar.cmpi .sgt v19 v2
  let c1_i32_20 : BitVec 32 := 1#32
  let c0_i32_21 : BitVec 32 := 0#32
  let v47 : BitVec 32 := Scalar.select v46 c1_i32_20 c0_i32_21
  let v48 : BitVec 32 := Scalar.subi v19 v47
  let c2_i32_32 : BitVec 32 := 2#32
  let v68 : BitVec 1 := Scalar.cmpi .sge v48 c2_i32_32
  let v69 : BitVec 1 := Scalar.andi v67 v68
  let v70 : BitVec 32 := Scalar.extui v69
  let c0_i32_33 : BitVec 32 := 0#32
  let v71 : BitVec 1 := Scalar.cmpi .ne v70 c0_i32_33
  v71

def k0_off2 (i : grid0.Coords) (d0 : Dev nD) : Fin 1 → Nat :=
  let arg0 : BitVec 32 := BitVec.ofNat 32 (i 0).val
  let c0_i32 : BitVec 32 := 0#32
  let v4 : BitVec 1 := Scalar.cmpi .sgt arg0 c0_i32
  let v5 : BitVec 32 := Scalar.extui v4
  let c0_i32_0 : BitVec 32 := 0#32
  let v6 : BitVec 1 := Scalar.cmpi .slt arg0 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi arg0 c2_i32
  let c0_i32_3 : BitVec 32 := 0#32
  let v16 : BitVec 1 := Scalar.cmpi .ne v15 c0_i32_3
  let v17 : BitVec 1 := Scalar.andi v14 v16
  let v3 : BitVec 32 := Scalar.divsi arg0 c2_i32
  let c1_i32_4 : BitVec 32 := 1#32
  let v18 : BitVec 32 := Scalar.subi v3 c1_i32_4
  let v19 : BitVec 32 := Scalar.select v17 v18 v3
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v46 : BitVec 1 := Scalar.cmpi .sgt v19 v2
  let c1_i32_20 : BitVec 32 := 1#32
  let c0_i32_21 : BitVec 32 := 0#32
  let v47 : BitVec 32 := Scalar.select v46 c1_i32_20 c0_i32_21
  let v48 : BitVec 32 := Scalar.subi v19 v47
  let c2_i32_22 : BitVec 32 := 2#32
  let c0_i32_23 : BitVec 32 := 0#32
  let v49 : BitVec 1 := Scalar.cmpi .eq c2_i32_22 c0_i32_23
  let c1_i32_24 : BitVec 32 := 1#32
  let v50 : BitVec 32 := Scalar.select v49 c1_i32_24 c2_i32_22
  let v51 : BitVec 32 := Scalar.remsi v48 v50
  let c0_i32_26 : BitVec 32 := 0#32
  let v53 : BitVec 1 := Scalar.cmpi .slt v51 c0_i32_26
  let c0_i32_27 : BitVec 32 := 0#32
  let v54 : BitVec 1 := Scalar.cmpi .slt v50 c0_i32_27
  let v55 : BitVec 1 := Scalar.xori v53 v54
  let c0_i32_25 : BitVec 32 := 0#32
  let v52 : BitVec 1 := Scalar.cmpi .ne v51 c0_i32_25
  let v56 : BitVec 1 := Scalar.andi v55 v52
  let v57 : BitVec 32 := Scalar.addi v51 v50
  let v58 : BitVec 32 := Scalar.select v56 v57 v51
  ![v58.toNat]
def k0_off3 (i : grid0.Coords) (d0 : Dev nD) : Fin 3 → Nat :=
  let arg0 : BitVec 32 := BitVec.ofNat 32 (i 0).val
  let c0_i32 : BitVec 32 := 0#32
  let v4 : BitVec 1 := Scalar.cmpi .sgt arg0 c0_i32
  let v5 : BitVec 32 := Scalar.extui v4
  let c0_i32_0 : BitVec 32 := 0#32
  let v6 : BitVec 1 := Scalar.cmpi .slt arg0 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi arg0 c2_i32
  let c0_i32_3 : BitVec 32 := 0#32
  let v16 : BitVec 1 := Scalar.cmpi .ne v15 c0_i32_3
  let v17 : BitVec 1 := Scalar.andi v14 v16
  let v3 : BitVec 32 := Scalar.divsi arg0 c2_i32
  let c1_i32_4 : BitVec 32 := 1#32
  let v18 : BitVec 32 := Scalar.subi v3 c1_i32_4
  let v19 : BitVec 32 := Scalar.select v17 v18 v3
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v46 : BitVec 1 := Scalar.cmpi .sgt v19 v2
  let c1_i32_20 : BitVec 32 := 1#32
  let c0_i32_21 : BitVec 32 := 0#32
  let v47 : BitVec 32 := Scalar.select v46 c1_i32_20 c0_i32_21
  let v48 : BitVec 32 := Scalar.subi v19 v47
  let c2_i32_22 : BitVec 32 := 2#32
  let c0_i32_23 : BitVec 32 := 0#32
  let v49 : BitVec 1 := Scalar.cmpi .eq c2_i32_22 c0_i32_23
  let c1_i32_24 : BitVec 32 := 1#32
  let v50 : BitVec 32 := Scalar.select v49 c1_i32_24 c2_i32_22
  let v51 : BitVec 32 := Scalar.remsi v48 v50
  let c0_i32_26 : BitVec 32 := 0#32
  let v53 : BitVec 1 := Scalar.cmpi .slt v51 c0_i32_26
  let c0_i32_27 : BitVec 32 := 0#32
  let v54 : BitVec 1 := Scalar.cmpi .slt v50 c0_i32_27
  let v55 : BitVec 1 := Scalar.xori v53 v54
  let c0_i32_25 : BitVec 32 := 0#32
  let v52 : BitVec 1 := Scalar.cmpi .ne v51 c0_i32_25
  let v56 : BitVec 1 := Scalar.andi v55 v52
  let v57 : BitVec 32 := Scalar.addi v51 v50
  let v58 : BitVec 32 := Scalar.select v56 v57 v51
  let c0_i32_38 : BitVec 32 := 0#32
  let c0_i32_39 : BitVec 32 := 0#32
  ![v58.toNat, 0, 0]
def k0_off4 (i : grid0.Coords) (d0 : Dev nD) : Fin 3 → Nat :=
  let arg0 : BitVec 32 := BitVec.ofNat 32 (i 0).val
  let c0_i32 : BitVec 32 := 0#32
  let v4 : BitVec 1 := Scalar.cmpi .sgt arg0 c0_i32
  let v5 : BitVec 32 := Scalar.extui v4
  let c0_i32_0 : BitVec 32 := 0#32
  let v6 : BitVec 1 := Scalar.cmpi .slt arg0 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi arg0 c2_i32
  let c0_i32_3 : BitVec 32 := 0#32
  let v16 : BitVec 1 := Scalar.cmpi .ne v15 c0_i32_3
  let v17 : BitVec 1 := Scalar.andi v14 v16
  let v3 : BitVec 32 := Scalar.divsi arg0 c2_i32
  let c1_i32_4 : BitVec 32 := 1#32
  let v18 : BitVec 32 := Scalar.subi v3 c1_i32_4
  let v19 : BitVec 32 := Scalar.select v17 v18 v3
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v46 : BitVec 1 := Scalar.cmpi .sgt v19 v2
  let c1_i32_20 : BitVec 32 := 1#32
  let c0_i32_21 : BitVec 32 := 0#32
  let v47 : BitVec 32 := Scalar.select v46 c1_i32_20 c0_i32_21
  let v48 : BitVec 32 := Scalar.subi v19 v47
  let c2_i32_22 : BitVec 32 := 2#32
  let c0_i32_23 : BitVec 32 := 0#32
  let v49 : BitVec 1 := Scalar.cmpi .eq c2_i32_22 c0_i32_23
  let c1_i32_24 : BitVec 32 := 1#32
  let v50 : BitVec 32 := Scalar.select v49 c1_i32_24 c2_i32_22
  let v51 : BitVec 32 := Scalar.remsi v48 v50
  let c0_i32_26 : BitVec 32 := 0#32
  let v53 : BitVec 1 := Scalar.cmpi .slt v51 c0_i32_26
  let c0_i32_27 : BitVec 32 := 0#32
  let v54 : BitVec 1 := Scalar.cmpi .slt v50 c0_i32_27
  let v55 : BitVec 1 := Scalar.xori v53 v54
  let c0_i32_25 : BitVec 32 := 0#32
  let v52 : BitVec 1 := Scalar.cmpi .ne v51 c0_i32_25
  let v56 : BitVec 1 := Scalar.andi v55 v52
  let v57 : BitVec 32 := Scalar.addi v51 v50
  let v58 : BitVec 32 := Scalar.select v56 v57 v51
  let v74 : Index := Scalar.indexCast v58
  let c0_34 : Index := 0#32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi arg0 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c512_i32 : BitVec 32 := 512#32
  let v73 : BitVec 32 := Scalar.muli v29 c512_i32
  let v75 : Index := Scalar.indexCast v73
  ![v74.toNat, 0, v75.toNat]
def k0_cond6 (i : grid0.Coords) : BitVec 1 :=
  let arg0 : BitVec 32 := BitVec.ofNat 32 (i 0).val
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi arg0 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_35 : BitVec 32 := 1#32
  let v79 : BitVec 1 := Scalar.cmpi .eq v29 c1_i32_35
  let v80 : BitVec 32 := Scalar.extui v79
  let c0_i32_36 : BitVec 32 := 0#32
  let v81 : BitVec 1 := Scalar.cmpi .ne v80 c0_i32_36
  v81

def k0_off5 (i : grid0.Coords) (d0 : Dev nD) : Fin 1 → Nat :=
  let arg0 : BitVec 32 := BitVec.ofNat 32 (i 0).val
  let c0_i32 : BitVec 32 := 0#32
  let v4 : BitVec 1 := Scalar.cmpi .sgt arg0 c0_i32
  let v5 : BitVec 32 := Scalar.extui v4
  let c0_i32_0 : BitVec 32 := 0#32
  let v6 : BitVec 1 := Scalar.cmpi .slt arg0 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi arg0 c2_i32
  let c0_i32_3 : BitVec 32 := 0#32
  let v16 : BitVec 1 := Scalar.cmpi .ne v15 c0_i32_3
  let v17 : BitVec 1 := Scalar.andi v14 v16
  let v3 : BitVec 32 := Scalar.divsi arg0 c2_i32
  let c1_i32_4 : BitVec 32 := 1#32
  let v18 : BitVec 32 := Scalar.subi v3 c1_i32_4
  let v19 : BitVec 32 := Scalar.select v17 v18 v3
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v46 : BitVec 1 := Scalar.cmpi .sgt v19 v2
  let c1_i32_20 : BitVec 32 := 1#32
  let c0_i32_21 : BitVec 32 := 0#32
  let v47 : BitVec 32 := Scalar.select v46 c1_i32_20 c0_i32_21
  let v48 : BitVec 32 := Scalar.subi v19 v47
  let c2_i32_22 : BitVec 32 := 2#32
  let c0_i32_23 : BitVec 32 := 0#32
  let v49 : BitVec 1 := Scalar.cmpi .eq c2_i32_22 c0_i32_23
  let c1_i32_24 : BitVec 32 := 1#32
  let v50 : BitVec 32 := Scalar.select v49 c1_i32_24 c2_i32_22
  let v51 : BitVec 32 := Scalar.remsi v48 v50
  let c0_i32_26 : BitVec 32 := 0#32
  let v53 : BitVec 1 := Scalar.cmpi .slt v51 c0_i32_26
  let c0_i32_27 : BitVec 32 := 0#32
  let v54 : BitVec 1 := Scalar.cmpi .slt v50 c0_i32_27
  let v55 : BitVec 1 := Scalar.xori v53 v54
  let c0_i32_25 : BitVec 32 := 0#32
  let v52 : BitVec 1 := Scalar.cmpi .ne v51 c0_i32_25
  let v56 : BitVec 1 := Scalar.andi v55 v52
  let v57 : BitVec 32 := Scalar.addi v51 v50
  let v58 : BitVec 32 := Scalar.select v56 v57 v51
  ![v58.toNat]
def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_37 : BitVec 32 := 512#32
  let v82 : BitVec 32 := Scalar.muli v2 c512_i32_37
  let c0_i32_40 : BitVec 32 := 0#32
  ![v82.toNat, 0]
def k0_off8 (i : grid0.Coords) (d0 : Dev nD) : Fin 3 → Nat :=
  let arg0 : BitVec 32 := BitVec.ofNat 32 (i 0).val
  let c0_i32 : BitVec 32 := 0#32
  let v4 : BitVec 1 := Scalar.cmpi .sgt arg0 c0_i32
  let v5 : BitVec 32 := Scalar.extui v4
  let c0_i32_0 : BitVec 32 := 0#32
  let v6 : BitVec 1 := Scalar.cmpi .slt arg0 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi arg0 c2_i32
  let c0_i32_3 : BitVec 32 := 0#32
  let v16 : BitVec 1 := Scalar.cmpi .ne v15 c0_i32_3
  let v17 : BitVec 1 := Scalar.andi v14 v16
  let v3 : BitVec 32 := Scalar.divsi arg0 c2_i32
  let c1_i32_4 : BitVec 32 := 1#32
  let v18 : BitVec 32 := Scalar.subi v3 c1_i32_4
  let v19 : BitVec 32 := Scalar.select v17 v18 v3
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v46 : BitVec 1 := Scalar.cmpi .sgt v19 v2
  let c1_i32_20 : BitVec 32 := 1#32
  let c0_i32_21 : BitVec 32 := 0#32
  let v47 : BitVec 32 := Scalar.select v46 c1_i32_20 c0_i32_21
  let v48 : BitVec 32 := Scalar.subi v19 v47
  let c2_i32_22 : BitVec 32 := 2#32
  let c0_i32_23 : BitVec 32 := 0#32
  let v49 : BitVec 1 := Scalar.cmpi .eq c2_i32_22 c0_i32_23
  let c1_i32_24 : BitVec 32 := 1#32
  let v50 : BitVec 32 := Scalar.select v49 c1_i32_24 c2_i32_22
  let v51 : BitVec 32 := Scalar.remsi v48 v50
  let c0_i32_26 : BitVec 32 := 0#32
  let v53 : BitVec 1 := Scalar.cmpi .slt v51 c0_i32_26
  let c0_i32_27 : BitVec 32 := 0#32
  let v54 : BitVec 1 := Scalar.cmpi .slt v50 c0_i32_27
  let v55 : BitVec 1 := Scalar.xori v53 v54
  let c0_i32_25 : BitVec 32 := 0#32
  let v52 : BitVec 1 := Scalar.cmpi .ne v51 c0_i32_25
  let v56 : BitVec 1 := Scalar.andi v55 v52
  let v57 : BitVec 32 := Scalar.addi v51 v50
  let v58 : BitVec 32 := Scalar.select v56 v57 v51
  let c0_i32_41 : BitVec 32 := 0#32
  let c0_i32_42 : BitVec 32 := 0#32
  ![v58.toNat, 0, 0]
def k0_dev9 (i : grid0.Coords) : Nat :=
  let c0_i32_39 : BitVec 32 := 0#32
  let arg0 : BitVec 32 := BitVec.ofNat 32 (i 0).val
  let c0_i32 : BitVec 32 := 0#32
  let v4 : BitVec 1 := Scalar.cmpi .sgt arg0 c0_i32
  let v5 : BitVec 32 := Scalar.extui v4
  let c0_i32_0 : BitVec 32 := 0#32
  let v6 : BitVec 1 := Scalar.cmpi .slt arg0 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi arg0 c2_i32
  let c0_i32_3 : BitVec 32 := 0#32
  let v16 : BitVec 1 := Scalar.cmpi .ne v15 c0_i32_3
  let v17 : BitVec 1 := Scalar.andi v14 v16
  let v3 : BitVec 32 := Scalar.divsi arg0 c2_i32
  let c1_i32_4 : BitVec 32 := 1#32
  let v18 : BitVec 32 := Scalar.subi v3 c1_i32_4
  let v19 : BitVec 32 := Scalar.select v17 v18 v3
  let c1_i32_38 : BitVec 32 := 1#32
  let v83 : BitVec 32 := Scalar.muli v19 c1_i32_38
  let v84 : BitVec 32 := Scalar.addi c0_i32_39 v83
  v84.toNat
def k0_cond7 (i : grid0.Coords) : BitVec 1 :=
  let arg0 : BitVec 32 := BitVec.ofNat 32 (i 0).val
  let c15_i32 : BitVec 32 := 15#32
  let v64 : BitVec 1 := Scalar.cmpi .eq arg0 c15_i32
  let v65 : BitVec 32 := Scalar.extui v64
  let c0_i32_30 : BitVec 32 := 0#32
  let v66 : BitVec 1 := Scalar.cmpi .ne v65 c0_i32_30
  v66

def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_49 : BitVec 32 := 0#32
  let v77 : BitVec 1 := Scalar.cmpi .ne v2 c0_i32_49
  let v78 : BitVec 32 := Scalar.extui v77
  let c0_i32_50 : BitVec 32 := 0#32
  let v79 : BitVec 1 := Scalar.cmpi .ne v78 c0_i32_50
  v79

def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v80 : BitVec 1 := Scalar.cmpi .ne v2 c1_i32_51
  let v81 : BitVec 32 := Scalar.extui v80
  let c0_i32_52 : BitVec 32 := 0#32
  let v82 : BitVec 1 := Scalar.cmpi .ne v81 c0_i32_52
  v82

def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_53 : BitVec 32 := 2#32
  let v83 : BitVec 1 := Scalar.cmpi .ne v2 c2_i32_53
  let v84 : BitVec 32 := Scalar.extui v83
  let c0_i32_54 : BitVec 32 := 0#32
  let v85 : BitVec 1 := Scalar.cmpi .ne v84 c0_i32_54
  v85

def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v86 : BitVec 1 := Scalar.cmpi .ne v2 c3_i32
  let v87 : BitVec 32 := Scalar.extui v86
  let c0_i32_55 : BitVec 32 := 0#32
  let v88 : BitVec 1 := Scalar.cmpi .ne v87 c0_i32_55
  v88

def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v89 : BitVec 1 := Scalar.cmpi .ne v2 c4_i32
  let v90 : BitVec 32 := Scalar.extui v89
  let c0_i32_56 : BitVec 32 := 0#32
  let v91 : BitVec 1 := Scalar.cmpi .ne v90 c0_i32_56
  v91

def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v92 : BitVec 1 := Scalar.cmpi .ne v2 c5_i32
  let v93 : BitVec 32 := Scalar.extui v92
  let c0_i32_57 : BitVec 32 := 0#32
  let v94 : BitVec 1 := Scalar.cmpi .ne v93 c0_i32_57
  v94

def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v95 : BitVec 1 := Scalar.cmpi .ne v2 c6_i32
  let v96 : BitVec 32 := Scalar.extui v95
  let c0_i32_58 : BitVec 32 := 0#32
  let v97 : BitVec 1 := Scalar.cmpi .ne v96 c0_i32_58
  v97

def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v98 : BitVec 1 := Scalar.cmpi .ne v2 c7_i32
  let v99 : BitVec 32 := Scalar.extui v98
  let c0_i32_59 : BitVec 32 := 0#32
  let v100 : BitVec 1 := Scalar.cmpi .ne v99 c0_i32_59
  v100

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Proto.lean ====
/-
  The protocol of the distributed product with its all-to-all exchange: the views the kernel moves, the contents every
  buffer is to hold, the printed conditions and offsets in closed form, the schedule of the semaphore cells and what
  each device owes. The kernel runs sixteen points; point `j` computes half `j % 2` of the rows this device sends to
  device `j / 2`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Transfers
public import Idealize.ShloMosaic.Lib.Rounds
public import Idealize.ShloMosaic.Lib.Rounds.Family
public import Idealize.ShloMosaic.Lib.Pipeline.ValueKit.Geometry
public import Idealize.ShloMosaic.Lib.ValueLayout
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.ValueKit

variable {F : FTy → Type} [FloatOps F]

/-! ## Resource algebra: the pipeline's cells, the protocol's rounds, the transfers' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the protocol's rounds live: left of the second factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-! ## The buffers the exchange moves -/

abbrev outM : Memref sig .tc .vmem S4096x1024 .f32 := Memref.whole cc0_stg4_0
abbrev sbM : Memref sig .tc .vmem S2x512x1024 .f32 := Memref.whole cc0_scratch1
abbrev xqM : Memref sig .tc .vmem S512x4096 .fp8e4m3 := Memref.whole cc0_scratch0

theorem row_inb (r : Dev nD) : ∀ a, (![512 * r.val, 0] : Fin 2 → ℕ) a + S512x1024.size a ≤ S4096x1024.size a := by
  revert r; decide
theorem slot_inb (σ : Fin 2) : ∀ a, (![σ.val, 0, 0] : Fin 3 → ℕ) a + S1x512x1024.size a ≤ S2x512x1024.size a := by
  revert σ; decide

/-- Rows `512 r … 512 r + 511` of the result's buffer: what device `r` computes for its holder. -/
abbrev rowM (r : Dev nD) : Memref sig .tc .vmem S512x1024 .f32 :=
  outM.slice (Rect.unit (s := S4096x1024) ![512 * r.val, 0] S512x1024.size (row_inb r)) (fun _ => rfl)
/-- Slot `σ` of the send buffer. -/
abbrev slotM (σ : Fin 2) : Memref sig .tc .vmem S512x1024 .f32 :=
  (sbM.slice (Rect.unit (s := S2x512x1024) ![σ.val, 0, 0] S1x512x1024.size (slot_inb σ)) (fun _ => rfl)).squeeze S512x1024 squeezes_S1x512x1024_S512x1024

abbrev barS : Sem sig := barrier0
abbrev sendS (σ : Fin 2) : DmaSem sig := ⟨6 + σ.val, by revert σ; decide⟩
abbrev recvS (s : Dev nD) : DmaSem sig := ⟨8 + s.val, by revert s; decide⟩

abbrev barCell (c : Dev nD) : GSem nD τ sig := ((c : Thread nD τ), .reg barS)
abbrev sendCell (c : Dev nD) (σ : Fin 2) : GSem nD τ sig := ((c : Thread nD τ), .dma (sendS σ))
abbrev recvCell (c s : Dev nD) : GSem nD τ sig := ((c : Thread nD τ), .dma (recvS s))

/-- What a copy of one slot counts. -/
@[irreducible] def N : ℕ := (slotM 0).view.dmaCredit
theorem N_pos : 0 < N := by unfold N; exact View.dmaCredit_pos _ (by decide)
theorem N_slot (σ : Fin 2) : (slotM σ).view.dmaCredit = N := by unfold N; rfl
theorem N_row (r : Dev nD) : (rowM r).view.dmaCredit = N := by unfold N; rfl

/-! ## Indices -/

/-- Element `y` of block `r` of the result's rows. -/
def ridx (r : Dev nD) (y : S512x1024.Idx) : S4096x1024.Idx :=
  ix2 (⟨512 * r.val + (y 0).val, by have h1 := r.isLt; have h2 := idx2_lt0 y; change r.val < 8 at h1; omega⟩ : Fin 4096) (y 1)
/-- Element `y` of slot `σ`. -/
def sidx (σ : Fin 2) (y : S512x1024.Idx) : S2x512x1024.Idx := ix3 σ (y 0) (y 1)

theorem row_emb (r : Dev nD) (y : S512x1024.Idx) : (rowM r).view.emb y = ridx r y := by
  funext a
  apply Fin.ext
  show ((Rect.unit (s := S4096x1024) ![512 * r.val, 0] S512x1024.size (row_inb r)).emb y a : ℕ) = _
  rw [rect_emb_unit_val]
  fin_cases a
  · rfl
  · exact Nat.zero_add _

theorem slot_emb (σ : Fin 2) (y : S512x1024.Idx) : (slotM σ).view.emb y = sidx σ y := by
  rw [eq_ix2 y]
  show (Rect.unit (s := S2x512x1024) ![σ.val, 0, 0] S1x512x1024.size (slot_inb σ)).emb
    (Shape.reshapeEquiv squeezes_S1x512x1024_S512x1024.numel_eq (ix2 (y 0) (y 1))) = _
  erw [reshapeEquiv_ix2_1ab]
  funext a
  apply Fin.ext
  rw [rect_emb_unit_val]
  fin_cases a
  · rfl
  · exact Nat.zero_add _
  · exact Nat.zero_add _

/-- An element of the result's buffer lies in block `r` iff it is one of its elements. -/
theorem mem_row (r : Dev nD) (x : S4096x1024.Idx) : x ∈ (rowM r).view.set ↔ ∃ y, x = ridx r y := by
  constructor
  · intro h
    obtain ⟨y, -, rfl⟩ := Finset.mem_map.mp h
    exact ⟨y, row_emb r y⟩
  · rintro ⟨y, rfl⟩
    rw [← row_emb]; exact View.emb_mem_set _ y
theorem mem_slot (σ : Fin 2) (x : S2x512x1024.Idx) : x ∈ (slotM σ).view.set ↔ ∃ y, x = sidx σ y := by
  constructor
  · intro h
    obtain ⟨y, -, rfl⟩ := Finset.mem_map.mp h
    exact ⟨y, slot_emb σ y⟩
  · rintro ⟨y, rfl⟩
    rw [← slot_emb]; exact View.emb_mem_set _ y

theorem ridx_0 (r : Dev nD) (y : S512x1024.Idx) : (ridx r y 0).val = 512 * r.val + (y 0).val := rfl
theorem ridx_1 (r : Dev nD) (y : S512x1024.Idx) : (ridx r y 1).val = (y 1).val := rfl

/-- Every element of the result's buffer is an element of the block its row names. -/
theorem ridx_surj (x : S4096x1024.Idx) : ∃ (r : Dev nD) (y : S512x1024.Idx), x = ridx r y := by
  have h0 := idx2_lt0 x
  refine ⟨⟨(x 0).val / 512, by show _ < 8; omega⟩, ix2 (⟨(x 0).val % 512, by omega⟩ : Fin 512) (x 1), ?_⟩
  refine (eq_ix2 x).trans ?_
  unfold ridx
  congr 1
  apply Fin.ext
  show (x 0).val = 512 * ((x 0).val / 512) + (x 0).val % 512
  omega

theorem ridx_inj_row {r r' : Dev nD} {y y' : S512x1024.Idx} (h : ridx r y = ridx r' y') : r = r' := by
  have h0 := congrArg (fun x : S4096x1024.Idx => (x 0).val) h
  have hy := idx2_lt0 y; have hy' := idx2_lt0 y'
  simp only [ridx_0] at h0
  exact Fin.ext (by omega)

abbrev rowSet (r : Dev nD) : Finset S4096x1024.Idx := (rowM r).view.set
abbrev slotSet (σ : Fin 2) : Finset S2x512x1024.Idx := (slotM σ).view.set

theorem rows_disjoint {r r' : Dev nD} (h : r ≠ r') : Disjoint (rowSet r) (rowSet r') :=
  Finset.disjoint_left.mpr fun x hx hx' => by
    obtain ⟨y, rfl⟩ := (mem_row r x).mp hx
    obtain ⟨y', h'⟩ := (mem_row r' _).mp hx'
    exact h (ridx_inj_row h')
theorem rows_cover : (Finset.univ : Finset (Dev nD)).biUnion rowSet = Finset.univ :=
  Finset.eq_univ_iff_forall.mpr fun x => by
    obtain ⟨r, y, rfl⟩ := ridx_surj x
    exact Finset.mem_biUnion.mpr ⟨r, Finset.mem_univ _, (mem_row r _).mpr ⟨y, rfl⟩⟩

theorem slots_disjoint : Disjoint (slotSet 0) (slotSet 1) :=
  Finset.disjoint_left.mpr fun x hx hx' => by
    obtain ⟨y, rfl⟩ := (mem_slot 0 x).mp hx
    obtain ⟨y', h'⟩ := (mem_slot 1 _).mp hx'
    have := congrArg (fun z : S2x512x1024.Idx => (z 0).val) h'
    exact absurd this (by show ¬ (0 : ℕ) = 1; decide)
theorem slots_cover : slotSet 0 ∪ slotSet 1 = Finset.univ :=
  Finset.eq_univ_iff_forall.mpr fun x => by
    rw [Finset.mem_union, mem_slot, mem_slot]
    have h : x = ix3 (x 0) (x 1) (x 2) := eq_ix3 x
    rcases (show (x 0) = (0 : Fin 2) ∨ (x 0) = (1 : Fin 2) from by
      have := (x 0).isLt; change (x 0).val < 2 at this
      rcases (show (x 0).val = 0 ∨ (x 0).val = 1 by omega) with h | h
      · exact .inl (Fin.ext h)
      · exact .inr (Fin.ext h)) with h0 | h0
    · left; refine ⟨ix2 (x 1) (x 2), ?_⟩; rw [h, h0]; rfl
    · right; refine ⟨ix2 (x 1) (x 2), ?_⟩; rw [h, h0]; rfl

/-! ## Contents -/

/-- Device `c`'s rows of `x`, as the entry holds them. -/
def xblk (c : Dev nD) : Vec F S512x4096 .fp8e4m3 := m ((c : Thread nD τ).loc main_arg0)
/-- Columns `512 j … 512 j + 511` of device `c`'s copy of `w`. -/
def wblk (c : Dev nD) (j : Fin 16) : Vec F S4096x512 .fp8e4m3 := fun y =>
  m ((c : Thread nD τ).loc main_arg1) (ix2 (y 0) (⟨512 * j.val + (y 1).val, by have := idx2_lt1 y; omega⟩ : Fin 8192))
/-- The two scales, device `c`'s copies. -/
def sxv (c : Dev nD) : Vec F S1 .f32 := m ((c : Thread nD τ).loc main_arg2)
def swv (c : Dev nD) : Vec F S1 .f32 := m ((c : Thread nD τ).loc main_arg3)
/-- The product of the two scales. -/
def scl (c : Dev nD) : F .f32 := k0_pay4 (sxv m c (ix1 0)) (swv m c (ix1 0))

/-- What device `c` computes at point `j`. -/
def tile (c : Dev nD) (j : Fin 16) : FVec F S512x512 .f32 := k0_pay2 (scl m c) (k0_pay1 (xblk m c)) (wblk m c j)

/-- What device `c` has for device `t`, both halves side by side. -/
def sent (c t : Dev nD) : S512x1024.Idx → F .f32 := fun y =>
  tile m c ⟨2 * t.val + (y 1).val / 512, by have := t.isLt; change t.val < 8 at this; have := idx2_lt1 y; omega⟩
    (ix2 (y 0) (⟨(y 1).val % 512, by omega⟩ : Fin 512))

/-- What device `t` holds in the end: block `s` of its rows is what device `s` had for it. -/
def outFinal (t : Dev nD) : S4096x1024.Idx → F .f32 := fun x =>
  sent m ⟨(x 0).val / 512, by have := idx2_lt0 x; show _ < 8; omega⟩ t (ix2 (⟨(x 0).val % 512, by omega⟩ : Fin 512) (x 1))

theorem outFinal_ridx (t s : Dev nD) (y : S512x1024.Idx) : outFinal m t (ridx s y) = sent m s t y := by
  have h0 := idx2_lt0 y
  have e1 : (⟨(ridx s y 0).val / 512, by have := idx2_lt0 (ridx s y); show _ < 8; omega⟩ : Dev nD) = s :=
    Fin.ext (by show (512 * s.val + (y 0).val) / 512 = s.val; omega)
  have e2 : (ix2 (⟨(ridx s y 0).val % 512, by omega⟩ : Fin 512) (ridx s y 1) : S512x1024.Idx) = y := by
    rw [eq_ix2 y]
    congr 1
    apply Fin.ext
    show (512 * s.val + (y 0).val) % 512 = (y 0).val
    omega
  unfold outFinal
  rw [e1, e2]

/-- The first `k` halves of slot `σ` hold what device `c` has for device `t`. -/
def slotOK (c t : Dev nD) (k : ℕ) (σ : Fin 2) (f : S2x512x1024.Idx → F .f32) : Prop :=
  ∀ y : S512x1024.Idx, (y 1).val < 512 * k → f (sidx σ y) = sent m c t y
/-- The halves of device `c`'s own rows written before point `j` hold what it has for itself. -/
def ownOK (c : Dev nD) (j : ℕ) (f : S4096x1024.Idx → F .f32) : Prop :=
  ∀ y : S512x1024.Idx, 2 * c.val + (y 1).val / 512 < j → f (ridx c y) = sent m c c y

end Cert.Exchange
-- ==== Proof.Facts.lean ====
/-
  The kernel's printed conditions and offsets in closed form, over every grid point and device, and what its stores
  leave in the buffers.
-/
module

public import proofs.«01_k».proof.Proof.Proto

@[expose] public section

noncomputable section

namespace Cert.Exchange

open Cert.KernelIdeal Cert.KernelIdeal.Gen
open Idealize.ShloMosaic Idealize.ShloMosaic.TcCoe
open Idealize.ShloMosaic.ValueIdx Idealize.ShloMosaic.ValueKit

variable {F : FTy → Type} [FloatOps F]

/-! ## Places of the schedule -/

/-- Which send to a peer device `t` is on device `c`: peers are served in order, `c` itself left out. -/
def ord (c t : Dev nD) : ℕ := t.val - if c.val < t.val then 1 else 0
/-- The slot the rows for device `t` travel through. -/
def slotOf (c t : Dev nD) : Fin 2 := ⟨ord c t % 2, Nat.mod_lt _ (by decide)⟩

/-- The point's number, its target and its half. -/
abbrev pt (i : grid0.Coords) : Fin 16 := i 0
def tgt (i : grid0.Coords) : Dev nD := ⟨(pt i).val / 2, by have := (pt i).isLt; show _ < 8; omega⟩
def hlf (i : grid0.Coords) : ℕ := (pt i).val % 2

theorem cond1_iff : ∀ i : grid0.Coords, k0_cond1 i = 1#1 ↔ (pt i).val = 0 := by decide +kernel
theorem cond3_iff : ∀ (i : grid0.Coords) (d : Dev nD), k0_cond3 i d = 1#1 ↔ tgt i = d := by decide +kernel
theorem cond4_iff : ∀ (i : grid0.Coords) (d : Dev nD), k0_cond4 i d = 1#1 ↔ tgt i ≠ d := by decide +kernel
theorem cond5_iff : ∀ (i : grid0.Coords) (d : Dev nD), tgt i ≠ d → (k0_cond5 i d = 1#1 ↔ hlf i = 0 ∧ 2 ≤ ord d (tgt i)) := by decide +kernel
theorem cond6_iff : ∀ i : grid0.Coords, k0_cond6 i = 1#1 ↔ hlf i = 1 := by decide +kernel
theorem cond7_iff : ∀ i : grid0.Coords, k0_cond7 i = 1#1 ↔ (pt i).val = 15 := by decide +kernel
theorem cond8_iff : ∀ d : Dev nD, k0_cond8 d = 1#1 ↔ d ≠ 0 := by decide +kernel
theorem cond9_iff : ∀ d : Dev nD, k0_cond9 d = 1#1 ↔ d ≠ 1 := by decide +kernel
theorem cond10_iff : ∀ d : Dev nD, k0_cond10 d = 1#1 ↔ d ≠ 2 := by decide +kernel
theorem cond11_iff : ∀ d : Dev nD, k0_cond11 d = 1#1 ↔ d ≠ 3 := by decide +kernel
theorem cond12_iff : ∀ d : Dev nD, k0_cond12 d = 1#1 ↔ d ≠ 4 := by decide +kernel
theorem cond13_iff : ∀ d : Dev nD, k0_cond13 d = 1#1 ↔ d ≠ 5 := by decide +kernel
theorem cond14_iff : ∀ d : Dev nD, k0_cond14 d = 1#1 ↔ d ≠ 6 := by decide +kernel
theorem cond15_iff : ∀ d : Dev nD, k0_cond15 d = 1#1 ↔ d ≠ 7 := by decide +kernel

theorem off1_eq : ∀ (i : grid0.Coords) (d : Dev nD), k0_off1 i d = ![512 * d.val, 512 * hlf i] := by decide +kernel
theorem off2_eq : ∀ (i : grid0.Coords) (d : Dev nD), tgt i ≠ d → k0_off2 i d = ![(slotOf d (tgt i)).val] := by decide +kernel
theorem off3_eq : ∀ (i : grid0.Coords) (d : Dev nD), tgt i ≠ d → k0_off3 i d = ![(slotOf d (tgt i)).val, 0, 0] := by decide +kernel
theorem off4_eq : ∀ (i : grid0.Coords) (d : Dev nD), tgt i ≠ d → k0_off4 i d = ![(slotOf d (tgt i)).val, 0, 512 * hlf i] := by decide +kernel
theorem off5_eq : ∀ (i : grid0.Coords) (d : Dev nD), tgt i ≠ d → k0_off5 i d = ![(slotOf d (tgt i)).val] := by decide +kernel
theorem off8_eq : ∀ (i : grid0.Coords) (d : Dev nD), tgt i ≠ d → k0_off8 i d = ![(slotOf d (tgt i)).val, 0, 0] := by decide +kernel
theorem dev9_eq : ∀ i : grid0.Coords, k0_dev9 i = (tgt i).val := by decide +kernel

/-! ## Stores -/

variable (m : (ℓ : Loc nD τ sig) → Buf (Elt F) ℓ)

theorem half_row_inb (r : Dev nD) (h : Fin 2) : ∀ a, (![512 * r.val, 512 * h.val] : Fin 2 → ℕ) a + S512x512.size a ≤ S4096x1024.size a := by
  revert r h; decide
theorem half_slot_inb (σ h : Fin 2) : ∀ a, (![σ.val, 0, 512 * h.val] : Fin 3 → ℕ) a + S1x512x512.size a ≤ S2x512x1024.size a := by
  revert σ h; decide

/-- Half `h` of block `r` of the result's rows, and of slot `σ`. -/
abbrev rowHalf (r : Dev nD) (h : Fin 2) : Rect S4096x1024 := Rect.unit (s := S4096x1024) ![512 * r.val, 512 * h.val] S512x512.size (half_row_inb r h)
abbrev slotHalf (σ h : Fin 2) : Rect S2x512x1024 := Rect.unit (s := S2x512x1024) ![σ.val, 0, 512 * h.val] S1x512x512.size (half_slot_inb σ h)

/-- Element `z` of half `h`, in the block. -/
def hidx (h : Fin 2) (z : S512x512.Idx) : S512x1024.Idx :=
  ix2 (z 0) (⟨512 * h.val + (z 1).val, by have := idx2_lt1 z; have := h.isLt; omega⟩ : Fin 1024)

theorem rowHalf_emb (r : Dev nD) (h : Fin 2) (z : S512x512.Idx) : (outM.access (rowHalf r h)).emb z = ridx r (hidx h z) := by
  funext a
  apply Fin.ext
  show ((rowHalf r h).emb z a : ℕ) = _
  rw [rect_emb_unit_val]
  fin_cases a <;> rfl
theorem slotHalf_emb (σ h : Fin 2) (z : S512x512.Idx) :
    (sbM.access (slotHalf σ h)).emb (ix3 (⟨0, Nat.one_pos⟩ : Fin 1) (z 0) (z 1)) = sidx σ (hidx h z) := by
  funext a
  apply Fin.ext
  show ((slotHalf σ h).emb (ix3 (⟨0, Nat.one_pos⟩ : Fin 1) (z 0) (z 1)) a : ℕ) = _
  rw [rect_emb_unit_val]
  fin_cases a
  · rfl
  · exact Nat.zero_add _
  · rfl

theorem rowHalf_sub (r : Dev nD) (h : Fin 2) : (outM.access (rowHalf r h)).setOn Finset.univ ⊆ (rowM r).view.set := by
  intro x hx
  obtain ⟨z, -, rfl⟩ := Finset.mem_map.mp hx
  exact (mem_row r _).mpr ⟨_, rowHalf_emb r h z⟩
theorem slotHalf_sub (σ h : Fin 2) : (sbM.access (slotHalf σ h)).setOn Finset.univ ⊆ (slotM σ).view.set := by
  intro x hx
  obtain ⟨z, -, rfl⟩ := Finset.mem_map.mp hx
  refine (mem_slot σ _).mpr ⟨hidx h (ix2 (z 1) (z 2)), ?_⟩
  refine Eq.trans ?_ (slotHalf_emb σ h (ix2 (z 1) (z 2)))
  congr 1
  refine (eq_ix3 z).trans ?_
  congr 1
  exact Fin.ext (by have := (z 0).isLt; change (z 0).val < 1 at this; show (z 0).val = 0; omega)

/-- The split of a block's element into its half and its place there. -/
theorem hidx_surj (y : S512x1024.Idx) :
    y = hidx ⟨(y 1).val / 512, by have := idx2_lt1 y; omega⟩ (ix2 (y 0) (⟨(y 1).val % 512, by omega⟩ : Fin 512)) := by
  refine (eq_ix2 y).trans ?_
  unfold hidx
  congr 1
  apply Fin.ext
  show (y 1).val = 512 * ((y 1).val / 512) + (y 1).val % 512
  omega
theorem hidx_half {h h' : Fin 2} {z z' : S512x512.Idx} (e : hidx h z = hidx h' z') : h = h' := by
  have h1 := congrArg (fun y : S512x1024.Idx => (y 1).val) e
  have := idx2_lt1 z; have := idx2_lt1 z'
  change 512 * h.val + (z 1).val = 512 * h'.val + (z' 1).val at h1
  exact Fin.ext (by omega)
theorem hidx_1 (h : Fin 2) (z : S512x512.Idx) : (hidx h z 1).val = 512 * h.val + (z 1).val := rfl

theorem sent_hidx (c t : Dev nD) (h : Fin 2) (z : S512x512.Idx) (j : Fin 16) (hj : j.val = 2 * t.val + h.val) :
    sent m c t (hidx h z) = tile m c j z := by
  have hz := idx2_lt1 z
  have e1 : (⟨2 * t.val + (hidx h z 1).val / 512, by
      have := t.isLt; change t.val < 8 at this; have := idx2_lt1 (hidx h z); omega⟩ : Fin 16) = j :=
    Fin.ext (by rw [hj]; show 2 * t.val + (512 * h.val + (z 1).val) / 512 = _; omega)
  have e2 : (ix2 (hidx h z 0) (⟨(hidx h z 1).val % 512, by omega⟩ : Fin 512) : S512x512.Idx) = z := by
    refine Eq.trans ?_ (eq_ix2 z).symm
    congr 1
    apply Fin.ext
    show (512 * h.val + (z 1).val) % 512 = (z 1).val
    omega
  unfold sent
  rw [e1, e2]

/-- One more half of the device's own rows is written. -/
theorem ownOK_write (c : Dev nD) (h : Fin 2) (j : Fin 16) (hj : j.val = 2 * c.val + h.val)
    (f : S4096x1024.Idx → F .f32) (hf : ownOK m c j.val f) :
    ownOK m c (j.val + 1) ((outM.access (rowHalf c h)).write (Elt F) f (tile m c j) Finset.univ) := by
  intro y hy
  by_cases e : (y 1).val / 512 = h.val
  · have hy' : y = hidx h (ix2 (y 0) (⟨(y 1).val % 512, by omega⟩ : Fin 512)) := by
      refine (hidx_surj y).trans ?_
      congr 1
      exact Fin.ext e
    rw [hy', sent_hidx m c c h _ j hj, ← rowHalf_emb]
    exact View.write_emb_of_mem (v := outM.access (rowHalf c h)) (Val := Elt F) f (tile m c j) (Finset.mem_univ _)
  · have hn : ridx c y ∉ (outM.access (rowHalf c h)).setOn Finset.univ := by
      intro hx
      obtain ⟨z, -, hz⟩ := Finset.mem_map.mp hx
      rw [rowHalf_emb] at hz
      have h1 := congrArg (fun x : S4096x1024.Idx => (x 1).val) hz
      have := idx2_lt1 z
      change 512 * h.val + (z 1).val = (y 1).val at h1
      exact e (by omega)
    rw [← hf y (by omega)]
    exact View.write_of_not_mem (v := outM.access (rowHalf c h)) (Val := Elt F) f (tile m c j) Finset.univ hn

/-- Points of other devices' halves leave the device's own rows as they are. -/
theorem ownOK_skip (c : Dev nD) (j : Fin 16) (hj : j.val / 2 ≠ c.val) (f : S4096x1024.Idx → F .f32)
    (hf : ownOK m c j.val f) : ownOK m c (j.val + 1) f := by
  intro y hy
  have := idx2_lt1 y
  exact hf y (by omega)
theorem ownOK_zero (c : Dev nD) (f : S4096x1024.Idx → F .f32) : ownOK m c 0 f := fun y hy => absurd hy (Nat.not_lt_zero _)
theorem ownOK_end (c : Dev nD) (f : S4096x1024.Idx → F .f32) (hf : ownOK m c 16 f) :
    ∀ x ∈ (rowM c).view.set, f x = outFinal m c x := by
  intro x hx
  obtain ⟨y, rfl⟩ := (mem_row c x).mp hx
  rw [outFinal_ridx]
  have := idx2_lt1 y; have := c.isLt; change c.val < 8 at this
  exact hf y (by omega)

/-- The half a point computes, as the store into the send buffer takes it. -/
theorem pay3_at (v : F .f32) (a : Vec F S512x4096 .fp8e4m3) (b : Vec F S4096x512 .fp8e4m3) (z : S512x512.Idx) :
    k0_pay3 v a b (ix3 (⟨0, Nat.one_pos⟩ : Fin 1) (z 0) (z 1)) = k0_pay2 v a b z := by
  show shapeCast S1x512x512 (shapeCast S1x512x512 (k0_pay2 v a b) shapeCasts_S512x512_S1x512x512) shapeCasts_S1x512x512_S1x512x512 _ = _
  rw [shapeCast_self]
  exact (shapeCast_ab_1ab_apply (k0_pay2 v a b) _ _ _ _).trans (congrArg _ (eq_ix2 z).symm)

theorem slotOK_write (c t : Dev nD) (σ h : Fin 2) (j : Fin 16) (hj : j.val = 2 * t.val + h.val)
    (f : S2x512x1024.Idx → F .f32) (hf : slotOK m c t h.val σ f) :
    slotOK m c t (h.val + 1) σ ((sbM.access (slotHalf σ h)).write (Elt F) f (k0_pay3 (scl m c) (k0_pay1 (xblk m c)) (wblk m c j)) Finset.univ) := by
  intro y hy
  by_cases e : (y 1).val / 512 = h.val
  · have hy' : y = hidx h (ix2 (y 0) (⟨(y 1).val % 512, by omega⟩ : Fin 512)) := by
      refine (hidx_surj y).trans ?_
      congr 1
      exact Fin.ext e
    rw [hy', sent_hidx m c t h _ j hj, ← slotHalf_emb]
    refine (View.write_emb_of_mem (v := sbM.access (slotHalf σ h)) (Val := Elt F) f _ (Finset.mem_univ _)).trans ?_
    exact pay3_at _ _ _ _
  · have hn : sidx σ y ∉ (sbM.access (slotHalf σ h)).setOn Finset.univ := by
      intro hx
      obtain ⟨z, -, hz⟩ := Finset.mem_map.mp hx
      have h1 := congrArg (fun x : S2x512x1024.Idx => (x 2).val) hz
      have hz2 : (z 2).val < 512 := (z 2).isLt
      have h2 : (((sbM.access (slotHalf σ h)).emb z : S2x512x1024.Idx) 2).val = 512 * h.val + (z 2).val :=
        rect_emb_unit_val _ _ _ z 2
      have h3 : 512 * h.val + (z 2).val = (y 1).val := h2.symm.trans h1
      exact e (by omega)
    rw [← hf y (by omega)]
    exact View.write_of_not_mem (v := sbM.access (slotHalf σ h)) (Val := Elt F) f _ Finset.univ hn
theorem slotOK_zero (c t : Dev nD) (σ : Fin 2) (f : S2x512x1024.Idx → F .f32) : slotOK m c t 0 σ f := fun y hy => absurd hy (by omega)

/-- A full slot, copied onto block `c` of its target's rows, leaves there what the target is to hold. -/
theorem landed (c t : Dev nD) (σ : Fin 2) (fd : S4096x1024.Idx → F .f32) (f : S2x512x1024.Idx → F .f32) (hf : slotOK m c t 2 σ f) :
    ∀ x ∈ (rowM c).view.set, (rowM c).view.write (Elt F) fd ((slotM σ).view.read (Elt F) f) Finset.univ x = outFinal m t x := by
  intro x hx
  obtain ⟨y, -, rfl⟩ := Finset.mem_map.mp hx
  refine (View.write_emb_of_mem (v := (rowM c).view) (Val := Elt F) fd _ (Finset.mem_univ y)).trans ?_
  have h1 : outFinal m t ((rowM c).view.emb y) = sent m c t y := by rw [row_emb]; exact outFinal_ridx m t c y
  rw [h1]
  refine Eq.trans ?_ (hf y (by have := idx2_lt1 y; omega))
  rw [← slot_emb]
  rfl

end Cert.Exchange
-- ==== Proof.Sched.lean ====
/-
  The schedule of the semaphore cells, what each device owes, and the state of a send slot between points.

  Every device first hands each device `r` the block of its result rows that `r` is to fill, one unit on `r`'s barrier
  cell each; a copy into device `t`'s block pays the one duty on `t`'s receive cell, and returns the slot it left
  through the send cell's next round.
-/
module

public import proofs.«01_k».proof.Proof.Facts

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What is left from a place on -/

/-- The members of `Fin n` from `k` on. -/
def from_ (n k : ℕ) : Finset (Fin n) := Finset.univ.filter fun i => k ≤ i.val

theorem from_zero (n : ℕ) : from_ n 0 = Finset.univ := by
  unfold from_; exact Finset.filter_true_of_mem fun i _ => Nat.zero_le _
theorem from_end (n k : ℕ) (h : n ≤ k) : from_ n k = ∅ := by
  unfold from_; exact Finset.filter_false_of_mem fun i _ => by have := i.isLt; omega
theorem from_not_mem (n k : ℕ) (h : k < n) : (⟨k, h⟩ : Fin n) ∉ from_ n (k + 1) := by
  unfold from_; rw [Finset.mem_filter]; rintro ⟨-, h'⟩; exact absurd h' (Nat.not_succ_le_self k)
theorem from_step (n k : ℕ) (h : k < n) : from_ n k = insert (⟨k, h⟩ : Fin n) (from_ n (k + 1)) := by
  ext i
  unfold from_
  rw [Finset.mem_insert, Finset.mem_filter, Finset.mem_filter, Fin.ext_iff]
  simp only [Finset.mem_univ, true_and]
  omega

/-- `Φ` of every place from `k` on. -/
def tail {n : ℕ} (Φ : Fin n → sProp 𝕄) (k : ℕ) : sProp 𝕄 := bigSep (from_ n k) Φ

theorem tail_zero {n : ℕ} (Φ : Fin n → sProp 𝕄) : tail Φ 0 = bigSep Finset.univ Φ := by unfold tail; rw [from_zero]
theorem tail_step {n : ℕ} (Φ : Fin n → sProp 𝕄) (k : ℕ) (h : k < n) : tail Φ k = iprop(Φ ⟨k, h⟩ ∗ tail Φ (k + 1)) := by
  unfold tail; rw [from_step n k h, bigSep_insert (from_not_mem n k h)]; rfl
theorem tail_end {n : ℕ} (Φ : Fin n → sProp 𝕄) (k : ℕ) (h : n ≤ k) : tail Φ k = iprop(emp) := by
  unfold tail; rw [from_end n k h, bigSep_empty]; rfl

/-! ## The resources the exchange hands over -/

abbrev rowPts (t r : Dev nD) (f : Buf (Elt F) ((rowM r).view.loc (t : Thread nD τ))) : sProp 𝕄 :=
  (rowM r).view.loc (t : Thread nD τ) ↦[(rowM r).view.set]{fullShare} f
abbrev slotPts (c : Dev nD) (σ : Fin 2) (f : Buf (Elt F) ((slotM σ).view.loc (c : Thread nD τ))) : sProp 𝕄 :=
  (slotM σ).view.loc (c : Thread nD τ) ↦[(slotM σ).view.set]{fullShare} f

/-- Device `s`'s unit on `t`'s barrier cell carries `s`'s block of rows for `t`, and that its receive cell for `t` is at
    its first round. -/
def barPay (t s : Dev nD) : sProp 𝕄 := iprop((∃ f, rowPts s t f) ∗ reached ER (recvCell s t) 0)
/-- What a copy of device `s` leaves with device `t`: `s`'s block of `t`'s rows, as it is to be. -/
def recvPay (t s : Dev nD) : sProp 𝕄 := rowPts t s (outFinal m t)
/-- What comes back when a copy has left: the slot. -/
def sendPay (c : Dev nD) (σ : Fin 2) : sProp 𝕄 := iprop(∃ f, slotPts c σ f)

/-! ## The schedule -/

/-- The sender a receive semaphore is for, the slot a send semaphore is for. -/
def sndOf (x : DmaSem sig) : Dev nD := ⟨(x.val - 8) % 8, Nat.mod_lt _ (by decide)⟩
def sltOf (x : DmaSem sig) : Fin 2 := ⟨x.val % 2, Nat.mod_lt _ (by decide)⟩

theorem sndOf_recv : ∀ s : Dev nD, sndOf (recvS s) = s := by decide
theorem sltOf_send : ∀ σ : Fin 2, sltOf (sendS σ) = σ := by decide

def dutiesOf (c : Dev nD) (r : ℕ) : SemLoc sig → Finset (Dev nD)
  | .reg s => if s = barS ∧ r = 0 then Finset.univ else ∅
  | .dma x =>
    if x.val < 6 then ∅
    else if x.val < 8 then (if r + (sltOf x).val < 4 then {c} else ∅)
    else if r = 0 ∧ sndOf x ≠ c then {sndOf x} else ∅
def amountOf' : SemLoc sig → ℕ
  | .reg _ => 1
  | .dma _ => N
theorem amountOf_pos : ∀ sm : SemLoc sig, 0 < amountOf' sm
  | .reg _ => Nat.one_pos
  | .dma _ => N_pos
def payloadOf (c d : Dev nD) : SemLoc sig → sProp 𝕄
  | .reg _ => barPay c d
  | .dma x => if x.val < 8 then sendPay c (sltOf x) else recvPay m c (sndOf x)

def rd : Rounds.Schedule (GSem nD τ sig) (Dev nD) 𝕄 where
  duties g r := if g.1.2 = .tc then dutiesOf g.1.1 r g.2 else ∅
  unitless _ := False
  amount g _ _ := amountOf' g.2
  payload g _ d := payloadOf m g.1.1 d g.2
  amount_pos g _ _ _ := amountOf_pos g.2

instance rd_storable (g : GSem nD τ sig) (r : ℕ) (d : Dev nD) :
    BI.Storable (upEmb : UEmb _ 𝕄) ((rd (F := F) m).payload g r d) := by
  rcases g with ⟨t, s | x⟩
  · show BI.Storable upEmb (barPay t.1 d)
    unfold barPay; infer_instance
  · show BI.Storable upEmb (if x.val < 8 then sendPay t.1 (sltOf x) else recvPay m t.1 (sndOf x))
    unfold sendPay recvPay
    split <;> infer_instance

section Sched

variable (c s : Dev nD) (σ : Fin 2)

theorem duties_bar : (rd (F := F) m).duties (barCell c) 0 = Finset.univ := by
  show (if (c : Thread nD τ).2 = .tc then dutiesOf c 0 (.reg barS) else ∅) = _
  rw [if_pos rfl]; unfold dutiesOf; exact if_pos ⟨rfl, rfl⟩
theorem duties_bar_later (r : ℕ) (h : 1 ≤ r) : (rd (F := F) m).duties (barCell c) r = ∅ := by
  show (if (c : Thread nD τ).2 = .tc then dutiesOf c r (.reg barS) else ∅) = _
  rw [if_pos rfl]; unfold dutiesOf; exact if_neg fun h' => by omega
theorem duties_send (r : ℕ) : (rd (F := F) m).duties (sendCell c σ) r = if r + σ.val < 4 then {c} else ∅ := by
  show (if (c : Thread nD τ).2 = .tc then dutiesOf c r (.dma (sendS σ)) else ∅) = _
  rw [if_pos rfl]
  have hσ := σ.isLt
  show (if 6 + σ.val < 6 then ∅ else if 6 + σ.val < 8 then (if r + (sltOf (sendS σ)).val < 4 then {c} else ∅)
    else if r = 0 ∧ sndOf (sendS σ) ≠ c then {sndOf (sendS σ)} else ∅) = _
  rw [if_neg (show ¬ 6 + σ.val < 6 by omega), if_pos (show 6 + σ.val < 8 by omega), sltOf_send]
theorem duties_recv (r : ℕ) : (rd (F := F) m).duties (recvCell c s) r = if r = 0 ∧ s ≠ c then {s} else ∅ := by
  show (if (c : Thread nD τ).2 = .tc then dutiesOf c r (.dma (recvS s)) else ∅) = _
  rw [if_pos rfl]
  show (if 8 + s.val < 6 then ∅ else if 8 + s.val < 8 then (if r + (sltOf (recvS s)).val < 4 then {c} else ∅)
    else if r = 0 ∧ sndOf (recvS s) ≠ c then {sndOf (recvS s)} else ∅) = _
  rw [if_neg (show ¬ 8 + s.val < 6 by omega), if_neg (show ¬ 8 + s.val < 8 by omega), sndOf_recv]

theorem payload_bar (d : Dev nD) : (rd (F := F) m).payload (barCell c) 0 d = barPay c d := rfl
theorem payload_send (r : ℕ) (d : Dev nD) : (rd (F := F) m).payload (sendCell c σ) r d = sendPay c σ := by
  show (if 6 + σ.val < 8 then sendPay c (sltOf (sendS σ)) else recvPay m c (sndOf (sendS σ))) = _
  rw [if_pos (by have := σ.isLt; omega), sltOf_send]
theorem payload_recv (r : ℕ) (d : Dev nD) : (rd (F := F) m).payload (recvCell c s) r d = recvPay m c s := by
  show (if 8 + s.val < 8 then sendPay c (sltOf (recvS s)) else recvPay m c (sndOf (recvS s))) = _
  rw [if_neg (by omega), sndOf_recv]

theorem expect_bar : (rd (F := F) m).expect (barCell c) 0 = 8 := by
  unfold Schedule.expect Schedule.amountOf; rw [duties_bar]
  show ∑ d : Dev nD, 1 = 8
  decide
theorem expect_send (r : ℕ) (h : r + σ.val < 4) : (rd (F := F) m).expect (sendCell c σ) r = N := by
  unfold Schedule.expect Schedule.amountOf; rw [duties_send, if_pos h, Finset.sum_singleton]; rfl
theorem expect_recv (h : s ≠ c) : (rd (F := F) m).expect (recvCell c s) 0 = N := by
  unfold Schedule.expect Schedule.amountOf; rw [duties_recv, if_pos ⟨rfl, h⟩, Finset.sum_singleton]; rfl

theorem rest_bar : bigSep ((rd (F := F) m).duties (barCell c) 0 \ ∅) (fun d => (rd (F := F) m).payload (barCell c) 0 d)
    = bigSep Finset.univ (fun d => barPay c d) := by
  rw [Finset.sdiff_empty, duties_bar]; rfl
theorem rest_send (r : ℕ) (h : r + σ.val < 4) :
    bigSep ((rd (F := F) m).duties (sendCell c σ) r \ ∅) (fun d => (rd (F := F) m).payload (sendCell c σ) r d) = sendPay c σ := by
  rw [Finset.sdiff_empty, duties_send, if_pos h, bigSep_singleton, payload_send]
theorem rest_recv (h : s ≠ c) :
    bigSep ((rd (F := F) m).duties (recvCell c s) 0 \ ∅) (fun d => (rd (F := F) m).payload (recvCell c s) 0 d) = recvPay m c s := by
  rw [Finset.sdiff_empty, duties_recv, if_pos ⟨rfl, h⟩, bigSep_singleton, payload_recv]

end Sched

/-! ## Levels and what is owed -/

def L (g : GSem nD τ sig) : Finset Unit := if g.1.2 = .tc then {()} else ∅
/-- Receive cells wait above barrier cells, barrier cells above everything else. -/
def lv (g : GSem nD τ sig) (_ : Unit) : ℕ :=
  match g.2 with
  | .reg _ => 1
  | .dma x => if x.val < 8 then 0 else 2

theorem L_of_ne (g : GSem nD τ sig) (h : g.1.2 ≠ .tc) : L g = ∅ := if_neg h
theorem L_tc (c : Dev nD) (sm : SemLoc sig) : L ((c : Thread nD τ), sm) = {()} := if_pos rfl

/-- Units owed to the barrier cells of the devices from `k` on. -/
def oBar (k : ℕ) : CellTallies nD τ sig Unit := ∑ r ∈ from_ 8 k, tallyAt (barCell r) () 1
/-- Copies device `c` owes the devices from `k` on. -/
def oRecv (c : Dev nD) (k : ℕ) : CellTallies nD τ sig Unit :=
  ∑ t ∈ from_ 8 k, if t = c then 0 else tallyAt (recvCell t c) () N

theorem oBar_step (k : ℕ) (h : k < 8) : oBar k = tallyAt (barCell ⟨k, h⟩) () 1 + oBar (k + 1) := by
  unfold oBar; rw [from_step 8 k h, Finset.sum_insert (from_not_mem 8 k h)]
theorem oBar_end : oBar 8 = 0 := by unfold oBar; rw [from_end 8 8 le_rfl, Finset.sum_empty]
theorem oRecv_step (c : Dev nD) (k : ℕ) (h : k < 8) :
    oRecv c k = (if (⟨k, h⟩ : Dev nD) = c then 0 else tallyAt (recvCell ⟨k, h⟩ c) () N) + oRecv c (k + 1) := by
  unfold oRecv; rw [from_step 8 k h, Finset.sum_insert (from_not_mem 8 k h)]
theorem oRecv_end (c : Dev nD) : oRecv c 8 = 0 := by unfold oRecv; rw [from_end 8 8 le_rfl, Finset.sum_empty]

theorem oBar_pos {k : ℕ} {g : GSem nD τ sig} {u : Unit} (h : 0 < oBar k g u) : ∃ r, g = barCell r := by
  unfold oBar at h
  rw [Finset.sum_apply, Finsupp.finset_sum_apply] at h
  obtain ⟨r, -, hr⟩ := Finset.exists_ne_zero_of_sum_ne_zero (Nat.pos_iff_ne_zero.mp h)
  rw [tallyAt_apply] at hr
  by_cases hg : g = barCell r ∧ u = ()
  · exact ⟨r, hg.1⟩
  · rw [if_neg hg] at hr; exact absurd rfl hr
theorem oRecv_pos {c : Dev nD} {k : ℕ} {g : GSem nD τ sig} {u : Unit} (h : 0 < oRecv c k g u) : ∃ t, g = recvCell t c := by
  unfold oRecv at h
  rw [Finset.sum_apply, Finsupp.finset_sum_apply] at h
  obtain ⟨r, -, hr⟩ := Finset.exists_ne_zero_of_sum_ne_zero (Nat.pos_iff_ne_zero.mp h)
  by_cases hc : r = c
  · rw [if_pos hc] at hr; exact absurd rfl hr
  · rw [if_neg hc, tallyAt_apply] at hr
    by_cases hg : g = recvCell r c ∧ u = ()
    · exact ⟨r, hg.1⟩
    · rw [if_neg hg] at hr; exact absurd rfl hr

theorem lv_bar (r : Dev nD) (u : Unit) : lv (barCell r) u = 1 := rfl
theorem lv_recv (t c : Dev nD) (u : Unit) : lv (recvCell t c) u = 2 := by
  show (if 8 + c.val < 8 then 0 else 2) = 2
  rw [if_neg (by omega)]

/-- A wait below the barrier cells is admissible whatever of the protocol is still owed. -/
theorem mayWait_low (c : Dev nD) (x : DmaSem sig) (hx : x.val < 8) (k : ℕ) (b : Bool) :
    (levAts L lv : sProp 𝕄) ⊢ MayWait (c : Thread nD τ) (.dma x) () ((if b then oBar 0 else 0) + oRecv c k) := by
  have key : ∀ (g : GSem nD τ sig) (u : Unit), 0 < ((if b then oBar 0 else 0) + oRecv c k) g u → (∃ r, g = barCell r) ∨ (∃ t, g = recvCell t c) := by
    intro g u hg
    rw [Pi.add_apply, Finsupp.add_apply] at hg
    rcases Nat.eq_zero_or_pos (oRecv c k g u) with h0 | h0
    · rw [h0, Nat.add_zero] at hg
      cases b
      · exact absurd hg (Nat.lt_irrefl 0)
      · exact .inl (oBar_pos hg)
    · exact .inr (oRecv_pos h0)
  refine MayOwe.of_cut (L := L) (lev := lv) 0 (fun p hp => by rw [Finset.mem_singleton.mp hp, L_tc]; exact Finset.mem_singleton_self _)
    (fun g u hg => ?_) (fun p hp => ?_) (fun g u hg => ?_)
  · rcases key g u hg with ⟨r, rfl⟩ | ⟨t, rfl⟩ <;> (rw [L_tc]; exact Finset.mem_singleton_self _)
  · rw [Finset.mem_singleton.mp hp]
    show (if x.val < 8 then 0 else 2) ≤ 0
    rw [if_pos hx]
  · rcases key g u hg with ⟨r, rfl⟩ | ⟨t, rfl⟩
    · rw [lv_bar]; decide
    · rw [lv_recv]; decide

theorem mayWait_bar (c : Dev nD) (k : ℕ) : (levAts L lv : sProp 𝕄) ⊢ MayWait (c : Thread nD τ) (.reg barS) () (oRecv c k) := by
  refine MayOwe.of_cut (L := L) (lev := lv) 1 (fun p hp => by rw [Finset.mem_singleton.mp hp, L_tc]; exact Finset.mem_singleton_self _)
    (fun g u hg => ?_) (fun p hp => ?_) (fun g u hg => ?_)
  · obtain ⟨t, rfl⟩ := oRecv_pos hg; rw [L_tc]; exact Finset.mem_singleton_self _
  · rw [Finset.mem_singleton.mp hp]; exact le_rfl
  · obtain ⟨t, rfl⟩ := oRecv_pos hg; rw [lv_recv]; decide

/-! ## The state of a send slot between points -/

/-- Idle before its round `k`; half filled for device `t`; on its way in round `k`. -/
inductive Slot where
  | idle (k : ℕ)
  | half (k : ℕ) (t : Dev nD)
  | fly (k : ℕ)
  deriving DecidableEq

/-- The state of device `c`'s slot `σ` before point `j`. -/
def slotAt (c : Dev nD) (σ : Fin 2) (j : ℕ) : Slot :=
  let n := j / 2 - if c.val < j / 2 then 1 else 0
  let k := (n + 1 - σ.val) / 2
  if j % 2 = 1 ∧ j / 2 ≠ c.val ∧ n % 2 = σ.val then .half k ⟨j / 2 % 8, Nat.mod_lt _ (by decide)⟩
  else if k = 0 then .idle 0 else .fly (k - 1)

theorem slotAt_zero : ∀ (c : Dev nD) (σ : Fin 2), slotAt c σ 0 = .idle 0 := by decide
theorem slotAt_end0 : ∀ c : Dev nD, slotAt c 0 16 = .fly 3 := by decide
theorem slotAt_end1 : ∀ c : Dev nD, slotAt c 1 16 = .fly 2 := by decide
/-- A point of the device's own half leaves both slots. -/
theorem slotAt_own : ∀ (c : Dev nD) (i : grid0.Coords) (σ : Fin 2), tgt i = c → slotAt c σ ((pt i).val + 1) = slotAt c σ (pt i).val := by decide +kernel
/-- A point leaves the slot its target does not use. -/
theorem slotAt_other : ∀ (c : Dev nD) (i : grid0.Coords) (σ : Fin 2), σ ≠ slotOf c (tgt i) → slotAt c σ ((pt i).val + 1) = slotAt c σ (pt i).val := by decide +kernel
theorem slotAt_first : ∀ (c : Dev nD) (i : grid0.Coords), tgt i ≠ c → hlf i = 0 → ord c (tgt i) < 2 →
    slotAt c (slotOf c (tgt i)) (pt i).val = .idle (ord c (tgt i) / 2) := by decide +kernel
theorem slotAt_again : ∀ (c : Dev nD) (i : grid0.Coords), tgt i ≠ c → hlf i = 0 → 2 ≤ ord c (tgt i) →
    slotAt c (slotOf c (tgt i)) (pt i).val = .fly (ord c (tgt i) / 2 - 1) := by decide +kernel
theorem slotAt_filled : ∀ (c : Dev nD) (i : grid0.Coords), tgt i ≠ c → hlf i = 0 →
    slotAt c (slotOf c (tgt i)) ((pt i).val + 1) = .half (ord c (tgt i) / 2) (tgt i) := by decide +kernel
theorem slotAt_half : ∀ (c : Dev nD) (i : grid0.Coords), tgt i ≠ c → hlf i = 1 →
    slotAt c (slotOf c (tgt i)) (pt i).val = .half (ord c (tgt i) / 2) (tgt i) := by decide +kernel
theorem slotAt_sent : ∀ (c : Dev nD) (i : grid0.Coords), tgt i ≠ c → hlf i = 1 →
    slotAt c (slotOf c (tgt i)) ((pt i).val + 1) = .fly (ord c (tgt i) / 2) := by decide +kernel
/-- Every round a slot goes through is one the schedule has. -/
theorem round_lt : ∀ c t : Dev nD, t ≠ c → ord c t / 2 + (slotOf c t).val < 4 := by decide +kernel

/-- The rights to pay slot `σ`'s send cell in its rounds from `k` on. -/
def toks (c : Dev nD) (σ : Fin 2) (k : ℕ) : sProp 𝕄 :=
  tail (fun r : Fin 4 => if r.val + σ.val < 4 then dutyTok ER (sendCell c σ) r.val c else iprop(emp)) k

theorem toks_step (c : Dev nD) (σ : Fin 2) (k : ℕ) (h : k + σ.val < 4) :
    (toks c σ k : sProp 𝕄) = iprop(dutyTok ER (sendCell c σ) k c ∗ toks c σ (k + 1)) := by
  unfold toks
  rw [tail_step _ k (by omega), if_pos h]

/-- What device `c` holds of slot `σ`, by the slot's state. -/
def slotRes (c : Dev nD) (σ : Fin 2) : Slot → sProp 𝕄
  | .idle k => iprop((∃ f, slotPts c σ f) ∗ atPos ER (sendCell c σ) k ∅ 0 ∗ reached ER (sendCell c σ) k ∗ toks c σ k)
  | .half k t => iprop((∃ f, ⌜slotOK m c t 1 σ f⌝ ∗ slotPts c σ f) ∗ atPos ER (sendCell c σ) k ∅ 0 ∗ reached ER (sendCell c σ) k ∗ toks c σ k)
  | .fly k => iprop(cred (tallyAt (sendCell c σ) () N) ∗ atPos ER (sendCell c σ) k ∅ 0 ∗ toks c σ (k + 1))

end Cert.Exchange
-- ==== Proof.Pieces.lean ====
/-
  The kernel's body cut into its pieces, and what a device holds between them.
-/
module

public import proofs.«01_k».proof.Proof.Sched

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- Programs of a device's core. -/
abbrev TP (F : FTy → Type) [FloatOps F] (α : Type) : Type _ := Prog (TpuEff nD τ sig (Elt F) Λ₀ .tc) α

abbrev 𝒱₀ : Variants := Variants.none

/-! ## The pieces -/

abbrev sxM : Memref sig .tc .smem S1 .f32 := Memref.whole cc0_stg0_0
abbrev swM : Memref sig .tc .smem S1 .f32 := Memref.whole cc0_stg1_0
abbrev xM : Memref sig .tc .vmem S512x4096 .fp8e4m3 := Memref.whole cc0_stg2_0

/-- Every device tells every device that it has entered, and waits for all of them. -/
def handProg {α : Type} (i : grid0.Coords) (k : TP F α) : TP F α :=
  if h1 : k0_cond1 i = 1#1 then do
    semSignalWord (⟨k0_dev1, k0_dev1_lt i h1⟩ : Dev nD) barS 1#32
    semSignalWord (⟨k0_dev2, k0_dev2_lt i h1⟩ : Dev nD) barS 1#32
    semSignalWord (⟨k0_dev3, k0_dev3_lt i h1⟩ : Dev nD) barS 1#32
    semSignalWord (⟨k0_dev4, k0_dev4_lt i h1⟩ : Dev nD) barS 1#32
    semSignalWord (⟨k0_dev5, k0_dev5_lt i h1⟩ : Dev nD) barS 1#32
    semSignalWord (⟨k0_dev6, k0_dev6_lt i h1⟩ : Dev nD) barS 1#32
    semSignalWord (⟨k0_dev7, k0_dev7_lt i h1⟩ : Dev nD) barS 1#32
    semSignalWord (⟨k0_dev8, k0_dev8_lt i h1⟩ : Dev nD) barS 1#32
    semWaitWord barS 8#32
    k
  else k

/-- The copy of the device's rows of `x` into the scratch buffer the products read. -/
def castProg (i : grid0.Coords) (k : TP F PUnit) : TP F PUnit :=
  if h2 : Scalar.cmpi .ne (Scalar.extui (Scalar.cmpi .eq (BitVec.ofNat 32 (i 0).val) 0#32) : BitVec 32) 0#32 = 1#1 then do
    let v67 : Vec F S512x4096 .fp8e4m3 ← Prog.lift (.load xM (Rect.unit (s := S512x4096) ![0, 0] S512x4096.size inb_S512x4096_S512x4096_0_0).toLoadRect (View.loadsAt_vmem h_S512x4096))
    let v69 : Vec F S512x4096 .fp8e4m3 ← Prog.lift (.load xqM (Rect.unit (s := S512x4096) ![0, 0] S512x4096.size inb_S512x4096_S512x4096_0_0).toLoadRect (View.loadsAt_vmem h_S512x4096))
    Prog.lift (.store xqM (Rect.unit (s := S512x4096) ![0, 0] S512x4096.size inb_S512x4096_S512x4096_0_0) (k0_pay1 v67) Finset.univ (View.stores_vmem h_S512x4096 ((Memref.isWhole_whole _).storeExact_slice rfl _ packedfp8e4m3_S512x4096_S512x4096_0_0) (fun _ => rfl)) (.inl rfl))
    k
  else k

/-- The store of a product for the device itself. -/
def ownProg (i : grid0.Coords) (d0 : Dev nD) (v : Vec F S512x512 .f32) (k : TP F PUnit) : TP F PUnit :=
  if h3 : k0_cond3 i d0 = 1#1 then do
    let v71 : Vec F S512x512 .f32 ← Prog.lift (.load outM (Rect.unit (s := S4096x1024) (k0_off1 i d0) S512x512.size (k0_off1_inb i d0 h3)).toLoadRect (View.loadsAt_vmem h_S512x512))
    Prog.lift (.store outM (Rect.unit (s := S4096x1024) (k0_off1 i d0) S512x512.size (k0_off1_inb i d0 h3)) v Finset.univ (View.stores_vmem_bits_univ h_S512x512 rfl) (.inl rfl))
    k
  else k

/-- The wait before a slot is used again. -/
def freeProg (i : grid0.Coords) (d0 : Dev nD) (h4 : k0_cond4 i d0 = 1#1) (k : TP F PUnit) : TP F PUnit :=
  if h5 : k0_cond5 i d0 = 1#1 then do
    Prog.lift (.waitDma2 ((cc0_scratch2.slice (Rect.unit (s := S2) (k0_off2 i d0) S1.size (k0_off2_inb i d0 h4 h5))).squeeze S_ squeezes_S1_S_).sem
      (outM.slice (Rect.unit (s := S4096x1024) ![0, 0] S512x1024.size inb_S4096x1024_S512x1024_0_0) (fun _ => rfl))
      ((sbM.slice (Rect.unit (s := S2x512x1024) (k0_off3 i d0) S1x512x1024.size (k0_off3_inb i d0 h4 h5)) (fun _ => rfl)).squeeze S512x1024 squeezes_S1x512x1024_S512x1024)
      (View.wordExact_bits rfl) ((View.wordExact_bits rfl).reshape _ _))
    k
  else k

/-- The store of a product into the slot. -/
def fillProg (i : grid0.Coords) (d0 : Dev nD) (h4 : k0_cond4 i d0 = 1#1) (v : Vec F S1x512x512 .f32) (k : TP F PUnit) : TP F PUnit := do
  let v76 : Vec F S1x512x512 .f32 ← Prog.lift (.load sbM (Rect.unit (s := S2x512x1024) (k0_off4 i d0) S1x512x512.size (k0_off4_inb i d0 h4)).toLoadRect (View.loadsAt_vmem h_S1x512x512))
  Prog.lift (.store sbM (Rect.unit (s := S2x512x1024) (k0_off4 i d0) S1x512x512.size (k0_off4_inb i d0 h4)) v Finset.univ (View.stores_vmem_bits_univ h_S1x512x512 rfl) (.inl rfl))
  k

/-- The copy of a full slot to its device. -/
def sendProg (i : grid0.Coords) (d0 : Dev nD) (h4 : k0_cond4 i d0 = 1#1) (k : TP F PUnit) : TP F PUnit :=
  if h6 : k0_cond6 i = 1#1 then do
    Prog.lift (.enqueueDma ((sbM.slice (Rect.unit (s := S2x512x1024) (k0_off8 i d0) S1x512x1024.size (k0_off8_inb i d0 h4 h6)) (fun _ => rfl)).squeeze S512x1024 squeezes_S1x512x1024_S512x1024)
      (.remote (Dev.tc (⟨k0_dev9 i, k0_dev9_lt i d0 h4 h6⟩ : Dev nD))
        (outM.slice (Rect.unit (s := S4096x1024) (k0_off7 d0) S512x1024.size (k0_off7_inb i d0 h4 h6)) (fun _ => rfl))
        (.dma ((cc0_scratch2.slice (Rect.unit (s := S2) (k0_off5 i d0) S1.size (k0_off5_inb i d0 h4 h6))).squeeze S_ squeezes_S1_S_).sem))
      (.dma ((cc0_scratch3.slice (Rect.unit (s := S8) (k0_off6 d0) S1.size (k0_off6_inb i d0 h4 h6))).squeeze S_ squeezes_S1_S_).sem)
      ((View.wordExact_bits rfl).reshape _ _) (View.wordExact_bits rfl) ⟨⟨rfl, Or.inl rfl⟩, trivial⟩)
    k
  else k

/-- A product for another device: the slot made free, filled, and sent when it is full. -/
def peerProg (i : grid0.Coords) (d0 : Dev nD) (v : Vec F S1x512x512 .f32) (k : TP F PUnit) : TP F PUnit :=
  if h4 : k0_cond4 i d0 = 1#1 then freeProg i d0 h4 (fillProg i d0 h4 v (sendProg i d0 h4 k))
  else k

/-- The wait for what one slot last sent. -/
def lastSend (o : Fin 1 → ℕ) (ho : ∀ a, o a + S1.size a ≤ S2.size a) (o' : Fin 3 → ℕ) (ho' : ∀ a, o' a + S1x512x1024.size a ≤ S2x512x1024.size a)
    (k : TP F PUnit) : TP F PUnit := do
  Prog.lift (.waitDma2 ((cc0_scratch2.slice (Rect.unit (s := S2) o S1.size ho)).squeeze S_ squeezes_S1_S_).sem
    (outM.slice (Rect.unit (s := S4096x1024) ![0, 0] S512x1024.size inb_S4096x1024_S512x1024_0_0) (fun _ => rfl))
    ((sbM.slice (Rect.unit (s := S2x512x1024) o' S1x512x1024.size ho') (fun _ => rfl)).squeeze S512x1024 squeezes_S1x512x1024_S512x1024)
    (View.wordExact_bits rfl) ((View.wordExact_bits rfl).reshape _ _))
  k

/-- The wait for what one device sends. -/
def recvProg (b : Prop) [Decidable b] (o : Fin 1 → ℕ) (ho : ∀ a, o a + S1.size a ≤ S8.size a)
    (o' : Fin 2 → ℕ) (ho' : ∀ a, o' a + S512x1024.size a ≤ S4096x1024.size a) (k : TP F PUnit) : TP F PUnit :=
  if h : b then do
    Prog.lift (.waitDma2 ((cc0_scratch3.slice (Rect.unit (s := S8) o S1.size ho)).squeeze S_ squeezes_S1_S_).sem
      ((sbM.slice (Rect.unit (s := S2x512x1024) ![0, 0, 0] S1x512x1024.size inb_S2x512x1024_S1x512x1024_0_0_0) (fun _ => rfl)).squeeze S512x1024 squeezes_S1x512x1024_S512x1024)
      (outM.slice (Rect.unit (s := S4096x1024) o' S512x1024.size ho') (fun _ => rfl))
      ((View.wordExact_bits rfl).reshape _ _) (View.wordExact_bits rfl))
    k
  else k

/-- The waits before the last point returns. -/
def endProg (i : grid0.Coords) (d0 : Dev nD) (k : TP F PUnit) : TP F PUnit :=
  if h7 : k0_cond7 i = 1#1 then
    lastSend ![0] inb_S2_S1_0 ![0, 0, 0] inb_S2x512x1024_S1x512x1024_0_0_0 <|
    lastSend ![1] inb_S2_S1_1 ![1, 0, 0] inb_S2x512x1024_S1x512x1024_1_0_0 <|
    recvProg (k0_cond8 d0 = 1#1) ![0] inb_S8_S1_0 ![0, 0] inb_S4096x1024_S512x1024_0_0 <|
    recvProg (k0_cond9 d0 = 1#1) ![1] inb_S8_S1_1 ![512, 0] inb_S4096x1024_S512x1024_512_0 <|
    recvProg (k0_cond10 d0 = 1#1) ![2] inb_S8_S1_2 ![1024, 0] inb_S4096x1024_S512x1024_1024_0 <|
    recvProg (k0_cond11 d0 = 1#1) ![3] inb_S8_S1_3 ![1536, 0] inb_S4096x1024_S512x1024_1536_0 <|
    recvProg (k0_cond12 d0 = 1#1) ![4] inb_S8_S1_4 ![2048, 0] inb_S4096x1024_S512x1024_2048_0 <|
    recvProg (k0_cond13 d0 = 1#1) ![5] inb_S8_S1_5 ![2560, 0] inb_S4096x1024_S512x1024_2560_0 <|
    recvProg (k0_cond14 d0 = 1#1) ![6] inb_S8_S1_6 ![3072, 0] inb_S4096x1024_S512x1024_3072_0 <|
    recvProg (k0_cond15 d0 = 1#1) ![7] inb_S8_S1_7 ![3584, 0] inb_S4096x1024_S512x1024_3584_0 k
  else k

/-- The body, piece by piece. -/
def bodyProg (i : grid0.Coords) (arg4 : Memref sig .tc .vmem S4096x512 .fp8e4m3) : TP F PUnit := do
  let d0 : Dev nD ← Prog.lift .deviceId
  let v30 : Elt F .f32 ← smemLoad sxM (Rect.unit (s := S1) ![0] S1.size inb_S1_S1_0) numel1_S1 rfl
  let v31 : Elt F .f32 ← smemLoad swM (Rect.unit (s := S1) ![0] S1.size inb_S1_S1_0) numel1_S1 rfl
  handProg i <| castProg i <| do
  let v39 : Vec F S512x4096 .fp8e4m3 ← Prog.lift (.load xqM (Rect.unit (s := S512x4096) ![0, 0] S512x4096.size inb_S512x4096_S512x4096_0_0).toLoadRect (View.loadsAt_vmem h_S512x4096))
  let v40 : Vec F S4096x512 .fp8e4m3 ← Prog.lift (.load arg4 (Rect.unit (s := S4096x512) ![0, 0] S4096x512.size inb_S4096x512_S4096x512_0_0).toLoadRect (View.loadsAt_vmem h_S4096x512))
  ownProg i d0 (k0_pay2 (k0_pay4 v30 v31) v39 v40) <|
  peerProg i d0 (k0_pay3 (k0_pay4 v30 v31) v39 v40) <|
  endProg i d0 (pure ⟨⟩)

abbrev bodyOf (i : grid0.Coords) (arg4 : Memref sig .tc .vmem S4096x512 .fp8e4m3) (h4 : arg4.IsWhole) : TP F PUnit :=
  cc0_body i sxM (Memref.isWhole_whole _) swM (Memref.isWhole_whole _) xM (Memref.isWhole_whole _) arg4 h4 outM (Memref.isWhole_whole _)
    xqM (Memref.isWhole_whole _) sbM (Memref.isWhole_whole _) cc0_scratch2 cc0_scratch3

theorem hand_bind {α β : Type} (i : grid0.Coords) (k : TP F α) (f : α → TP F β) : (handProg i k >>= f) = handProg i (k >>= f) := by
  unfold handProg; split <;> rfl
theorem recv_bind (b : Prop) [Decidable b] (o : Fin 1 → ℕ) (ho) (o' : Fin 2 → ℕ) (ho') (k : TP F PUnit) (f : PUnit → TP F PUnit) :
    (recvProg b o ho o' ho' k >>= f) = recvProg b o ho o' ho' (k >>= f) := by
  unfold recvProg; split <;> rfl
theorem lastSend_bind (o : Fin 1 → ℕ) (ho) (o' : Fin 3 → ℕ) (ho') (k : TP F PUnit) (f : PUnit → TP F PUnit) :
    (lastSend o ho o' ho' k >>= f) = lastSend o ho o' ho' (k >>= f) := rfl

section Eq

variable (i : grid0.Coords) (arg4 : Memref sig .tc .vmem S4096x512 .fp8e4m3) (h4 : arg4.IsWhole)

/-- The first waits of the last point, and the rest of them. -/
def endHead (d0 : Dev nD) (k : TP F PUnit) : TP F PUnit :=
  lastSend ![0] inb_S2_S1_0 ![0, 0, 0] inb_S2x512x1024_S1x512x1024_0_0_0 <|
  lastSend ![1] inb_S2_S1_1 ![1, 0, 0] inb_S2x512x1024_S1x512x1024_1_0_0 <|
  recvProg (k0_cond8 d0 = 1#1) ![0] inb_S8_S1_0 ![0, 0] inb_S4096x1024_S512x1024_0_0 <|
  recvProg (k0_cond9 d0 = 1#1) ![1] inb_S8_S1_1 ![512, 0] inb_S4096x1024_S512x1024_512_0 <|
  recvProg (k0_cond10 d0 = 1#1) ![2] inb_S8_S1_2 ![1024, 0] inb_S4096x1024_S512x1024_1024_0 <|
  recvProg (k0_cond11 d0 = 1#1) ![3] inb_S8_S1_3 ![1536, 0] inb_S4096x1024_S512x1024_1536_0 <|
  recvProg (k0_cond12 d0 = 1#1) ![4] inb_S8_S1_4 ![2048, 0] inb_S4096x1024_S512x1024_2048_0 k

theorem part2_eq (d0 : Dev nD) (v2 : BitVec 32) :
    k0_part2 (F := F) i sxM (Memref.isWhole_whole _) swM (Memref.isWhole_whole _) xM (Memref.isWhole_whole _) arg4 h4 outM (Memref.isWhole_whole _)
      xqM (Memref.isWhole_whole _) sbM (Memref.isWhole_whole _) cc0_scratch2 cc0_scratch3 d0 v2 = endHead d0 (pure ⟨⟩) := rfl

theorem endHead_bind (d0 : Dev nD) (k : TP F PUnit) (f : PUnit → TP F PUnit) : (endHead d0 k >>= f) = endHead d0 (k >>= f) := by
  unfold endHead
  simp only [lastSend_bind, recv_bind]

theorem part3_eq : ∃ v2 v19 v29 : Dev nD → BitVec 32,
    k0_part3 (F := F) i sxM (Memref.isWhole_whole _) swM (Memref.isWhole_whole _) xM (Memref.isWhole_whole _) arg4 h4 outM (Memref.isWhole_whole _)
      xqM (Memref.isWhole_whole _) sbM (Memref.isWhole_whole _) cc0_scratch2 cc0_scratch3
    = (do
      let d0 : Dev nD ← Prog.lift .deviceId
      let v30 : Elt F .f32 ← smemLoad sxM (Rect.unit (s := S1) ![0] S1.size inb_S1_S1_0) numel1_S1 rfl
      let v31 : Elt F .f32 ← smemLoad swM (Rect.unit (s := S1) ![0] S1.size inb_S1_S1_0) numel1_S1 rfl
      handProg i (pure ⟨BitVec.ofNat 32 (i 0).val, d0, v2 d0, v19 d0, v29 d0, k0_pay4 v30 v31, Scalar.cmpi .eq (BitVec.ofNat 32 (i 0).val) 0#32⟩)) :=
  ⟨_, _, _, rfl⟩

set_option maxRecDepth 65536 in
theorem body_eq : bodyOf (F := F) i arg4 h4 = bodyProg i arg4 := by
  obtain ⟨v2, v19, v29, h⟩ := part3_eq (F := F) i arg4 h4
  rw [show bodyOf (F := F) i arg4 h4 = cc0_body_skel i sxM (Memref.isWhole_whole _) swM (Memref.isWhole_whole _) xM (Memref.isWhole_whole _) arg4 h4 outM (Memref.isWhole_whole _)
    xqM (Memref.isWhole_whole _) sbM (Memref.isWhole_whole _) cc0_scratch2 cc0_scratch3 from rfl]
  unfold cc0_body_skel
  rw [h]
  simp only [part2_eq, bind_assoc, hand_bind, endHead_bind, pure_bind]
  rfl

end Eq

end Cert.Exchange
-- ==== Proof.Held.lean ====
/-
  What a device holds between points, and how the handshake's units and the copies move it.
-/
module

public import proofs.«01_k».proof.Proof.Pieces

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- A core's program from inside the kernel body. -/
abbrev wpc {α : Type} (c : Dev nD) (p : TP F α) (Q : α → sProp 𝕄) : sProp 𝕄 :=
  wp frame (wpE (defs₀ (F := F)) 𝒱₀ (c : Thread nD τ) none) Set.univ p Q

/-! ## The records -/

theorem barEmb_inj : Function.Injective (fun c : Dev nD => barCell c) := fun _ _ h => congrArg (fun g : GSem nD τ sig => g.1.1) h
def barEmb : Dev nD ↪ GSem nD τ sig := ⟨fun c => barCell c, barEmb_inj⟩
/-- The cells of the kernel's own semaphores: two to send by, eight to receive by. -/
abbrev osem (k : Fin 10) : DmaSem sig := ⟨6 + k.val, by revert k; decide⟩
theorem osem_inj : Function.Injective osem := by decide
def scEmb : Dev nD × Fin 10 ↪ GSem nD τ sig :=
  ⟨fun ck => ((ck.1 : Thread nD τ), .dma (osem ck.2)), fun _ _ h =>
    Prod.ext (congrArg (fun g : GSem nD τ sig => g.1.1) h) (osem_inj (SemLoc.dma.inj (congrArg Prod.snd h)))⟩

def barCells : Finset (GSem nD τ sig) := Finset.univ.map barEmb
def scCells : Finset (GSem nD τ sig) := Finset.univ.map scEmb

theorem send_sc (c : Dev nD) (σ : Fin 2) : sendCell c σ = scEmb (c, ⟨σ.val, by omega⟩) := rfl
theorem recv_sc (c s : Dev nD) : recvCell c s = scEmb (c, ⟨2 + s.val, by have := s.isLt; change s.val < 8 at this; omega⟩) := by
  show ((c : Thread nD τ), SemLoc.dma (recvS s)) = ((c : Thread nD τ), SemLoc.dma _)
  congr 2
  exact Fin.ext (show 8 + s.val = 6 + (2 + s.val) by omega)

theorem bar_mem (c : Dev nD) : barCell c ∈ barCells ∪ scCells :=
  Finset.mem_union_left _ (Finset.mem_map_of_mem barEmb (Finset.mem_univ c))
theorem send_mem (c : Dev nD) (σ : Fin 2) : sendCell c σ ∈ barCells ∪ scCells :=
  Finset.mem_union_right _ (by rw [send_sc]; exact Finset.mem_map_of_mem scEmb (Finset.mem_univ _))
theorem recv_mem (c s : Dev nD) : recvCell c s ∈ barCells ∪ scCells :=
  Finset.mem_union_right _ (by rw [recv_sc]; exact Finset.mem_map_of_mem scEmb (Finset.mem_univ _))

/-- What every device may consult: the cells' invariants under one map of names, that every barrier cell is at its first
    round, and the levels. -/
def recs (K : GSem nD τ sig → ℕ) : sProp 𝕄 :=
  iprop((bigSep (barCells ∪ scCells) fun g => cellInv ER (rd m) (K g) g) ∗ (bigSep Finset.univ fun r => reached ER (barCell r) 0) ∗ levAts L lv)
instance recs_persistent (K : GSem nD τ sig → ℕ) : BI.Persistent (recs m K : sProp 𝕄) := by unfold recs; infer_instance

theorem inv_at (K : GSem nD τ sig → ℕ) {g : GSem nD τ sig} (hg : g ∈ barCells ∪ scCells) :
    (recs m K : sProp 𝕄) ⊢ cellInv ER (rd m) (K g) g := by
  have h : (bigSep (barCells ∪ scCells) fun g => (cellInv ER (rd m) (K g) g : sProp 𝕄)) ⊢ cellInv ER (rd m) (K g) g := bigSep_elim hg
  unfold recs; iintro ⟨H, -, -⟩
  iapply h; iexact H
theorem reached_at (K : GSem nD τ sig → ℕ) (r : Dev nD) : (recs m K : sProp 𝕄) ⊢ reached ER (barCell r) 0 := by
  have h : (bigSep Finset.univ fun r => (reached ER (barCell r) 0 : sProp 𝕄)) ⊢ reached ER (barCell r) 0 := bigSep_elim (Finset.mem_univ r)
  unfold recs; iintro ⟨-, H, -⟩
  iapply h; iexact H
theorem levs_at (K : GSem nD τ sig → ℕ) : (recs m K : sProp 𝕄) ⊢ levAts L lv := by
  unfold recs; iintro ⟨-, -, H⟩; iexact H

/-! ## What is held -/

abbrev xqPts (c : Dev nD) (f : Vec F S512x4096 .fp8e4m3) : sProp 𝕄 := (c : Thread nD τ).loc cc0_scratch0 ↦{fullShare} f
abbrev outPts (c : Dev nD) (f : Vec F S4096x1024 .f32) : sProp 𝕄 := (c : Thread nD τ).loc cc0_stg4_0 ↦{fullShare} f
abbrev sbPts (c : Dev nD) (f : Vec F S2x512x1024 .f32) : sProp 𝕄 := (c : Thread nD τ).loc cc0_scratch1 ↦{fullShare} f

/-- What goes with the units to the devices from `k` on. -/
def hs (c : Dev nD) (k : ℕ) : sProp 𝕄 :=
  tail (fun r : Dev nD => iprop((∃ f, rowPts c r f) ∗ reached ER (recvCell c r) 0 ∗ dutyTok ER (barCell r) 0 c)) k
/-- What a copy to device `t` needs of `t`. -/
def peer (c t : Dev nD) : sProp 𝕄 := iprop((∃ f, rowPts t c f) ∗ reached ER (recvCell t c) 0 ∗ dutyTok ER (recvCell t c) 0 c)
def peers (c : Dev nD) (k : ℕ) : sProp 𝕄 := tail (fun t : Dev nD => if t = c then iprop(emp) else peer c t) k
def rtoks (c : Dev nD) : sProp 𝕄 := bigSep Finset.univ fun t : Dev nD => if t = c then iprop(emp) else dutyTok ER (recvCell t c) 0 c
/-- What device `c` holds of its receive cells from `k` on. -/
def rcv (c : Dev nD) (k : ℕ) : sProp 𝕄 :=
  tail (fun s : Dev nD => iprop(atPos ER (recvCell c s) 0 ∅ 0 ∗ if s = c then iprop(emp) else cred (tallyAt (recvCell c s) () N))) k
/-- What it owes the other devices. -/
def owed (c : Dev nD) (k : ℕ) : sProp 𝕄 := iprop(∃ W, owes (c : Thread nD τ) (oRecv c k) W)
/-- The own rows before point `j`. -/
def own (c : Dev nD) (j : ℕ) : sProp 𝕄 := iprop(∃ f, ⌜ownOK m c j f⌝ ∗ rowPts c c f)
def slots (c : Dev nD) (j : ℕ) : sProp 𝕄 := iprop(slotRes m c 0 (slotAt c 0 j) ∗ slotRes m c 1 (slotAt c 1 j))
/-- What the copies to other devices work on. -/
def exch (c : Dev nD) (j : ℕ) : sProp 𝕄 := iprop(peers c (j / 2) ∗ owed c (j / 2) ∗ slots m c j)
/-- Everything of the protocol once the handshake is through. -/
def mid (c : Dev nD) (j : ℕ) : sProp 𝕄 := iprop(own m c j ∗ exch m c j ∗ rcv c 0 ∗ semVal (barCell c) 0)
/-- Everything of the protocol before it. -/
def start (c : Dev nD) : sProp 𝕄 :=
  iprop(hs c 0 ∗ rtoks c ∗ (cred (tallyAt (barCell c) () 8) ∗ atPos ER (barCell c) 0 ∅ 0)
    ∗ (∃ W, owes (c : Thread nD τ) (oBar 0 + oRecv c 0) W) ∗ slots m c 0 ∗ rcv c 0)
/-- What the last point leaves. -/
def done (c : Dev nD) : sProp 𝕄 :=
  iprop(outPts c (outFinal m c) ∗ (∃ f, sbPts c f) ∗ (∃ W, owes (c : Thread nD τ) (0 : CellTallies nD τ sig Unit) W)
    ∗ (semVal (sendCell c 0) 0 ∗ semVal (sendCell c 1) 0) ∗ (bigSep Finset.univ fun s : Dev nD => semVal (recvCell c s) 0) ∗ semVal (barCell c) 0)

/-- The protocol's state at the entry of point `j`, and at its exit. -/
def pre (c : Dev nD) (j : ℕ) : sProp 𝕄 := if j = 0 then start m c else mid m c j
def post (c : Dev nD) (j : ℕ) : sProp 𝕄 := if j = 15 then done m c else mid m c (j + 1)
/-- The scratch copy of the device's rows of `x`, before point `j`. -/
def xqAt (c : Dev nD) (j : ℕ) : sProp 𝕄 := if j = 0 then iprop(∃ f, xqPts c f) else xqPts c (k0_pay1 (xblk m c))

/-! ## The handshake -/

theorem one_word : (1#32 : BitVec 32).toInt = ((1 : ℕ) : ℤ) := by decide
theorem eight_word : (8#32 : BitVec 32).toInt = ((8 : ℕ) : ℤ) := by decide

theorem signal_step {α : Type} (K : GSem nD τ sig → ℕ) (c r : Dev nD) (k : ℕ) (hk : k < 8) (hr : r.val = k) (W : Waits sig Unit)
    (p : PUnit → TP F α) (Q : α → sProp 𝕄) :
    iprop(recs m K ∗ hs c k ∗ owes (c : Thread nD τ) (oBar k + oRecv c 0) W)
      ⊢ iprop((hs c (k + 1) ∗ owes (c : Thread nD τ) (oBar (k + 1) + oRecv c 0) W -∗ wpc c (p ⟨⟩) Q)
        -∗ wpc c (.op (.semSignal (r : Thread nD τ) barS ((1#32 : BitVec 32).toInt)) p) Q) := by
  obtain rfl : r = ⟨k, hk⟩ := Fin.ext hr
  rw [one_word]
  unfold hs
  rw [tail_step _ k hk]
  iintro ⟨#HR, ⟨⟨Hrow, Hre, Htok⟩, Ht⟩, HO⟩ Hk
  iapply (Rounds.wp_signal 𝒱₀ ER (rd m) (c : Thread nD τ) none (dst := ((⟨k, hk⟩ : Dev nD) : Thread nD τ)) (sem := barS) (r := 0) (d := c)
      (κ := K (barCell ⟨k, hk⟩)) (by rw [duties_bar]; exact Finset.mem_univ _) (k' := 1) rfl () (O₀ := oBar k + oRecv c 0) (oBar (k + 1) + oRecv c 0)
      (by rw [oBar_step k hk, add_assoc, add_comm]) (W := W)) $$ [Hrow Hre Htok HO]
  · isplitr; · iapply (inv_at m K (bar_mem ⟨k, hk⟩)); iexact HR
    isplitl [HO]; · iexact HO
    isplitl [Htok]; · iexact Htok
    isplitl [Hrow Hre]
    · rw [payload_bar]; unfold barPay
      isplitl [Hrow]; · iexact Hrow
      iexact Hre
    iapply (reached_at m K ⟨k, hk⟩); iexact HR
  iintro HO
  iapply Hk
  isplitl [Ht]; · iexact Ht
  iexact HO

/-- The rows handed over and the rights to pay, device by device. -/
theorem peers_intro (c : Dev nD) :
    iprop((bigSep Finset.univ fun s => barPay c s) ∗ rtoks c) ⊢ (iprop((∃ f, rowPts c c f) ∗ peers c 0) : sProp 𝕄) := by
  unfold rtoks peers
  rw [tail_zero, bigSep_univ_at (fun s => (barPay c s : sProp 𝕄)) c, bigSep_univ_at (fun t : Dev nD => if t = c then iprop(emp) else dutyTok ER (recvCell t c) 0 c) c,
    bigSep_univ_at (fun t : Dev nD => if t = c then iprop(emp) else peer c t) c, if_pos rfl, if_pos rfl]
  have h : iprop((bigSep (Finset.univ.erase c) fun s => barPay c s) ∗ bigSep (Finset.univ.erase c) fun t : Dev nD => if t = c then iprop(emp) else dutyTok ER (recvCell t c) 0 c)
      ⊢ (bigSep (Finset.univ.erase c) fun t : Dev nD => if t = c then iprop(emp) else peer c t : sProp 𝕄) := by
    refine (Entails.of_eq (bigSep_sep _ _ _).symm).trans (bigSep_mono fun t ht => ?_)
    rw [if_neg (Finset.ne_of_mem_erase ht), if_neg (Finset.ne_of_mem_erase ht)]
    show iprop(barPay c t ∗ dutyTok ER (recvCell t c) 0 c) ⊢ peer c t
    unfold barPay peer
    iintro ⟨⟨Hr, Hre⟩, Ht⟩
    isplitl [Hr]; · iexact Hr
    isplitl [Hre]; · iexact Hre
    iexact Ht
  iintro ⟨⟨Hc, Hb⟩, -, Ht⟩
  unfold barPay
  icases Hc with ⟨Hc, -⟩
  isplitl [Hc]; · iexact Hc
  isplitr; · iempintro
  iapply h
  isplitl [Hb]; · iexact Hb
  iexact Ht

theorem hand_run (K : GSem nD τ sig → ℕ) (c : Dev nD) (i : grid0.Coords) (k : TP F PUnit) (Q : PUnit → sProp 𝕄) :
    iprop(recs m K ∗ pre m c (pt i).val ∗ (mid m c (pt i).val -∗ wpc c k Q)) ⊢ wpc c (handProg i k) Q := by
  unfold handProg pre
  by_cases h : k0_cond1 i = 1#1
  · rw [dif_pos h, if_pos ((cond1_iff i).mp h)]
    have hj := (cond1_iff i).mp h
    simp only [semSignalWord, semWaitWord, Prog.bind_op, Prog.bind_ret]
    unfold start
    iintro ⟨#HR, ⟨Hh, Ht, ⟨Hc, Hat⟩, ⟨%W, HO⟩, Hs, Hv⟩, Hk⟩
    iapply (signal_step m K c _ 0 (by decide) k0_dev1_eq W) $$ [Hh HO]
    · isplitr; · iexact HR
      isplitl [Hh] <;> iassumption
    iintro ⟨Hh, HO⟩
    iapply (signal_step m K c _ 1 (by decide) k0_dev2_eq W) $$ [Hh HO]
    · isplitr; · iexact HR
      isplitl [Hh] <;> iassumption
    iintro ⟨Hh, HO⟩
    iapply (signal_step m K c _ 2 (by decide) k0_dev3_eq W) $$ [Hh HO]
    · isplitr; · iexact HR
      isplitl [Hh] <;> iassumption
    iintro ⟨Hh, HO⟩
    iapply (signal_step m K c _ 3 (by decide) k0_dev4_eq W) $$ [Hh HO]
    · isplitr; · iexact HR
      isplitl [Hh] <;> iassumption
    iintro ⟨Hh, HO⟩
    iapply (signal_step m K c _ 4 (by decide) k0_dev5_eq W) $$ [Hh HO]
    · isplitr; · iexact HR
      isplitl [Hh] <;> iassumption
    iintro ⟨Hh, HO⟩
    iapply (signal_step m K c _ 5 (by decide) k0_dev6_eq W) $$ [Hh HO]
    · isplitr; · iexact HR
      isplitl [Hh] <;> iassumption
    iintro ⟨Hh, HO⟩
    iapply (signal_step m K c _ 6 (by decide) k0_dev7_eq W) $$ [Hh HO]
    · isplitr; · iexact HR
      isplitl [Hh] <;> iassumption
    iintro ⟨Hh, HO⟩
    iapply (signal_step m K c _ 7 (by decide) k0_dev8_eq W) $$ [Hh HO]
    · isplitr; · iexact HR
      isplitl [Hh] <;> iassumption
    iintro ⟨-, HO⟩
    rw [oBar_end, zero_add, eight_word]
    iapply (Rounds.wp_wait_rest_token 𝒱₀ ER (rd m) (c : Thread nD τ) none (κ := K (barCell c))
        (wpE_semWait_eq 𝒱₀ (c : Thread nD τ) none Set.univ) (Set.mem_univ _) () (O := oRecv c 0) (W := W) (R := 0) (m := 0) (T := ∅)
        ((Nat.zero_add 8).trans (expect_bar m c).symm)) $$ [Hc HO Hat]
    · isplitr; · iapply (inv_at m K (bar_mem c)); iexact HR
      isplitl [Hc]; · iexact Hc
      isplitl [HO]; · iexact HO
      isplitr; · iapply (mayWait_bar c 0); iapply (levs_at m K); iexact HR
      iexact Hat
    iintro ⟨HO, Hat, -, Hpay⟩
    ihave Hp := (Entails.of_eq (rest_bar m c)) $$ Hpay
    ihave Hq := (peers_intro c) $$ [Hp Ht]
    · isplitl [Hp] <;> iassumption
    icases Hq with ⟨⟨%f, Hown⟩, Hpe⟩
    iapply fupd_wp
    imod (Rounds.cell_close ER (rd m) (g := barCell c) (κ := K (barCell c)) (Set.mem_univ _) (fun h => h) (duties_bar_later m c)) $$ [Hat] with Hb
    · isplitr; · iapply (inv_at m K (bar_mem c)); iexact HR
      iexact Hat
    imodintro
    iapply Hk
    unfold mid own exch owed
    rw [hj]
    isplitl [Hown]
    · iexists f; isplitr; · ipureintro; exact ownOK_zero m c f
      iexact Hown
    isplitl [Hpe HO Hs]
    · isplitl [Hpe]; · iexact Hpe
      isplitl [HO]; · iexists _; iexact HO
      iexact Hs
    isplitl [Hv]; · iexact Hv
    iexact Hb
  · rw [dif_neg h, if_neg (fun e => h ((cond1_iff i).mpr e))]
    iintro ⟨-, H, Hk⟩
    iapply Hk
    iexact H

end Cert.Exchange
-- ==== Proof.Body.lean ====
/-
  The kernel's body at one point: each piece of it takes what the device held before it to what it holds after.
-/
module

public import proofs.«01_k».proof.Proof.Held

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The copy of the rows of `x` -/

theorem cast_cond : ∀ i : grid0.Coords, Scalar.cmpi .ne (Scalar.extui (Scalar.cmpi .eq (BitVec.ofNat 32 (i 0).val) 0#32) : BitVec 32) 0#32 = 1#1 ↔ (pt i).val = 0 := by
  decide +kernel

abbrev xPts (c : Dev nD) (f : Vec F S512x4096 .fp8e4m3) : sProp 𝕄 := (c : Thread nD τ).loc cc0_stg2_0 ↦{fullShare} f

theorem off_zero2 : (![0, 0] : Fin 2 → ℕ) = fun _ => 0 := by decide

theorem x_load {α : Type} (c : Dev nD) (f : Vec F S512x4096 .fp8e4m3) {hl} (k : Vec F S512x4096 .fp8e4m3 → TP F α) (Q : α → sProp 𝕄) :
    xPts c f ⊢ iprop((xPts c f -∗ wpc c (k f) Q)
      -∗ wpc c (.op (.load xM (Rect.unit (s := S512x4096) ![0, 0] S512x4096.size inb_S512x4096_S512x4096_0_0).toLoadRect hl) k) Q) := by
  have h := wp_load (defs := defs₀ (F := F)) 𝒱₀ (c : Thread nD τ) none Set.univ (Q := Q) (Γ := PendingWaitsCtx.empty) (m := xM) (r := (Rect.unit (s := S512x4096) ![0, 0] S512x4096.size inb_S512x4096_S512x4096_0_0).toLoadRect)
    (hl := hl) (k := k) (S := Finset.univ) (q := fullShare) (f := f) (Finset.subset_univ _)
  have e : xM.view.readAt (Elt F) (Rect.unit (s := S512x4096) ![0, 0] S512x4096.size inb_S512x4096_S512x4096_0_0).toLoadRect f = f :=
    Memref.readAt_unit_zero (Elt F) cc0_stg2_0 off_zero2 _ f
  rw [e] at h
  exact h
theorem xq_load {α : Type} (c : Dev nD) (f : Vec F S512x4096 .fp8e4m3) {hl} (k : Vec F S512x4096 .fp8e4m3 → TP F α) (Q : α → sProp 𝕄) :
    xqPts c f ⊢ iprop((xqPts c f -∗ wpc c (k f) Q)
      -∗ wpc c (.op (.load xqM (Rect.unit (s := S512x4096) ![0, 0] S512x4096.size inb_S512x4096_S512x4096_0_0).toLoadRect hl) k) Q) := by
  have h := wp_load (defs := defs₀ (F := F)) 𝒱₀ (c : Thread nD τ) none Set.univ (Q := Q) (Γ := PendingWaitsCtx.empty) (m := xqM) (r := (Rect.unit (s := S512x4096) ![0, 0] S512x4096.size inb_S512x4096_S512x4096_0_0).toLoadRect)
    (hl := hl) (k := k) (S := Finset.univ) (q := fullShare) (f := f) (Finset.subset_univ _)
  have e : xqM.view.readAt (Elt F) (Rect.unit (s := S512x4096) ![0, 0] S512x4096.size inb_S512x4096_S512x4096_0_0).toLoadRect f = f :=
    Memref.readAt_unit_zero (Elt F) cc0_scratch0 off_zero2 _ f
  rw [e] at h
  exact h
theorem xq_store {α : Type} (c : Dev nD) (f w : Vec F S512x4096 .fp8e4m3) {hs} {hm} (k : PUnit → TP F α) (Q : α → sProp 𝕄) :
    xqPts c f ⊢ iprop((xqPts c w -∗ wpc c (k ⟨⟩) Q)
      -∗ wpc c (.op (.store xqM (Rect.unit (s := S512x4096) ![0, 0] S512x4096.size inb_S512x4096_S512x4096_0_0) w Finset.univ hs hm) k) Q) := by
  have h := wp_store (defs := defs₀ (F := F)) 𝒱₀ (c : Thread nD τ) none Set.univ (Q := Q) (Γ := PendingWaitsCtx.empty) (m := xqM) (r := Rect.unit (s := S512x4096) ![0, 0] S512x4096.size inb_S512x4096_S512x4096_0_0)
    (w := w) (hx := hs) (hm := hm) (k := k) (S := Finset.univ) (f := f) (Finset.subset_univ _)
  have e : (xqM.access (Rect.unit (s := S512x4096) ![0, 0] S512x4096.size inb_S512x4096_S512x4096_0_0)).write (Elt F) f w Finset.univ = w :=
    Memref.write_access_unit_zero_univ (Elt F) cc0_scratch0 off_zero2 _ f w
  rw [e] at h
  exact h

theorem cast_run (c : Dev nD) (i : grid0.Coords) (k : TP F PUnit) (Q : PUnit → sProp 𝕄) :
    iprop(xPts c (xblk m c) ∗ xqAt m c (pt i).val ∗ (xPts c (xblk m c) ∗ xqPts c (k0_pay1 (xblk m c)) -∗ wpc c k Q)) ⊢ wpc c (castProg i k) Q := by
  unfold castProg xqAt
  by_cases h : Scalar.cmpi .ne (Scalar.extui (Scalar.cmpi .eq (BitVec.ofNat 32 (i 0).val) 0#32) : BitVec 32) 0#32 = 1#1
  · rw [dif_pos h, if_pos ((cast_cond i).mp h)]
    simp only [Prog.lift, Prog.bind_op, Prog.bind_ret]
    iintro ⟨Hx, ⟨%f, Hq⟩, Hk⟩
    iapply (x_load c (xblk m c)) $$ Hx
    iintro Hx
    iapply (xq_load c f) $$ Hq
    iintro Hq
    iapply (xq_store c f (k0_pay1 (xblk m c))) $$ Hq
    iintro Hq
    iapply Hk
    isplitl [Hx] <;> iassumption
  · rw [dif_neg h, if_neg (fun e => h ((cast_cond i).mpr e))]
    iintro ⟨Hx, Hq, Hk⟩
    iapply Hk
    isplitl [Hx] <;> iassumption

/-! ## The store of a product for the device itself -/

theorem own_step (c : Dev nD) (h : Fin 2) (j : Fin 16) (hj : j.val = 2 * c.val + h.val) (o : Fin 2 → ℕ) (ho : ∀ a, o a + S512x512.size a ≤ S4096x1024.size a)
    (e : o = ![512 * c.val, 512 * h.val]) {hl} {hs} {hm} (k : PUnit → TP F PUnit) (Q : PUnit → sProp 𝕄) :
    iprop(own m c j.val ∗ (own m c (j.val + 1) -∗ wpc c (k ⟨⟩) Q))
      ⊢ wpc c (.op (.load outM (Rect.unit (s := S4096x1024) o S512x512.size ho).toLoadRect hl) fun _ =>
          .op (.store outM (Rect.unit (s := S4096x1024) o S512x512.size ho) (tile m c j) Finset.univ hs hm) k) Q := by
  subst e
  unfold own
  iintro ⟨⟨%f, %hf, Hr⟩, Hk⟩
  iapply (wp_load_rect 𝒱₀ (c : Thread nD τ) none Set.univ (m := outM) (r := rowHalf c h) (S := (rowM c).view.set) (q := fullShare) (f := f) (rowHalf_sub c h)) $$ Hr
  iintro Hr
  iapply (wp_store 𝒱₀ (c : Thread nD τ) none Set.univ (m := outM) (r := rowHalf c h) (S := (rowM c).view.set) (f := f) (rowHalf_sub c h)) $$ Hr
  iintro Hr
  iapply Hk
  iexists _
  isplitr
  rotate_left
  · iexact Hr
  · ipureintro; exact ownOK_write m c h j hj f hf

theorem own_run (c : Dev nD) (i : grid0.Coords) (k : TP F PUnit) (Q : PUnit → sProp 𝕄) :
    iprop(own m c (pt i).val ∗ (own m c ((pt i).val + 1) -∗ wpc c k Q)) ⊢ wpc c (ownProg i c (tile m c (pt i)) k) Q := by
  unfold ownProg
  by_cases h : k0_cond3 i c = 1#1
  · rw [dif_pos h]
    have ht := (cond3_iff i c).mp h
    have hv : (pt i).val / 2 = c.val := congrArg Fin.val ht
    simp only [Prog.lift, Prog.bind_op, Prog.bind_ret]
    exact own_step m c ⟨hlf i, Nat.mod_lt _ (by decide)⟩ (pt i) (by show _ = 2 * c.val + (pt i).val % 2; omega) _ _ (off1_eq i c) (fun _ => k) Q
  · rw [dif_neg h]
    have ht : (pt i).val / 2 ≠ c.val := fun e => h ((cond3_iff i c).mpr (Fin.ext e))
    unfold own
    iintro ⟨⟨%f, %hf, Hr⟩, Hk⟩
    iapply Hk
    iexists f
    isplitr; · ipureintro; exact ownOK_skip m c (pt i) ht f hf
    iexact Hr

/-! ## A product for another device -/

/-- The slot `σ` in its round `k`, its first `h` halves filled for device `t`. -/
def ready (c t : Dev nD) (σ : Fin 2) (k h : ℕ) : sProp 𝕄 :=
  iprop((∃ f, ⌜slotOK m c t h σ f⌝ ∗ slotPts c σ f) ∗ atPos ER (sendCell c σ) k ∅ 0 ∗ reached ER (sendCell c σ) k ∗ toks c σ k)

theorem mayWait_send (c : Dev nD) (σ : Fin 2) (q : ℕ) : (levAts L lv : sProp 𝕄) ⊢ MayWait (c : Thread nD τ) (.dma (sendS σ)) () (oRecv c q) := by
  have h := mayWait_low (F := F) c (sendS σ) (by show 6 + σ.val < 8; have := σ.isLt; omega) q false
  simpa only [Bool.false_eq_true, if_false, zero_add] using h

theorem sem_send : ∀ (σ : Fin 2) (ho : ∀ a, (![σ.val] : Fin 1 → ℕ) a + S1.size a ≤ S2.size a),
    ((cc0_scratch2.slice (Rect.unit (s := S2) ![σ.val] S1.size ho)).squeeze S_ squeezes_S1_S_).sem = sendS σ := by decide
theorem sem_recv : ∀ (s : Dev nD) (ho : ∀ a, (![s.val] : Fin 1 → ℕ) a + S1.size a ≤ S8.size a),
    ((cc0_scratch3.slice (Rect.unit (s := S8) ![s.val] S1.size ho)).squeeze S_ squeezes_S1_S_).sem = recvS s := by decide

/-- The wait for what slot `σ` sent in its round `k`: the slot comes back. -/
theorem send_wait {α : Type} (K : GSem nD τ sig → ℕ) (c : Dev nD) (σ : Fin 2) (k : ℕ) (hk : k + σ.val < 4) (q : ℕ) (W : Waits sig Unit)
    (o : Fin 1 → ℕ) (ho : ∀ a, o a + S1.size a ≤ S2.size a) (e : o = ![σ.val])
    (o' : Fin 3 → ℕ) (ho' : ∀ a, o' a + S1x512x1024.size a ≤ S2x512x1024.size a) (e' : o' = ![σ.val, 0, 0])
    (src : Memref sig .tc .vmem S512x1024 .f32) {h1} {h2} (p : PUnit → TP F α) (Q : α → sProp 𝕄) :
    iprop(recs m K ∗ cred (tallyAt (sendCell c σ) () N) ∗ atPos ER (sendCell c σ) k ∅ 0 ∗ owes (c : Thread nD τ) (oRecv c q) W)
      ⊢ iprop((owes (c : Thread nD τ) (oRecv c q) (insert (.dma (sendS σ), ()) W) ∗ (∃ f, slotPts c σ f) ∗ atPos ER (sendCell c σ) (k + 1) ∅ 0 ∗ reached ER (sendCell c σ) (k + 1)
          -∗ wpc c (p ⟨⟩) Q)
        -∗ wpc c (.op (.waitDma2 ((cc0_scratch2.slice (Rect.unit (s := S2) o S1.size ho)).squeeze S_ squeezes_S1_S_).sem src
            ((sbM.slice (Rect.unit (s := S2x512x1024) o' S1x512x1024.size ho') (fun _ => rfl)).squeeze S512x1024 squeezes_S1x512x1024_S512x1024) h1 h2) p) Q) := by
  subst e e'
  rw [sem_send]
  iintro ⟨#HR, Hc, Hat, HO⟩ Hk
  iapply (Rounds.wp_wait_rest_token 𝒱₀ ER (rd m) (c : Thread nD τ) none (κ := K (sendCell c σ))
      (wpE_waitDma2_eq (src := src) (dst := slotM σ) 𝒱₀ (c : Thread nD τ) none Set.univ) (Set.mem_univ _) () (O := oRecv c q) (W := W) (R := k) (m := 0) (T := ∅)
      ((Nat.zero_add _).trans ((N_slot σ).trans (expect_send m c σ k hk).symm))) $$ [Hc Hat HO]
  · isplitr; · iapply (inv_at m K (send_mem c σ)); iexact HR
    isplitl [Hc]; · rw [N_slot]; iexact Hc
    isplitl [HO]; · iexact HO
    isplitr; · iapply (mayWait_send c σ q); iapply (levs_at m K); iexact HR
    iexact Hat
  iintro ⟨HO, Hat, Hre, Hpay⟩
  ihave Hp := (Entails.of_eq (rest_send m c σ k hk)) $$ Hpay
  unfold sendPay
  iapply Hk
  isplitl [HO]; · iexact HO
  isplitl [Hp]; · iexact Hp
  isplitl [Hat] <;> iassumption

theorem fill_step (c t : Dev nD) (σ h : Fin 2) (j : Fin 16) (hj : j.val = 2 * t.val + h.val) (q : ℕ)
    (o : Fin 3 → ℕ) (ho : ∀ a, o a + S1x512x512.size a ≤ S2x512x1024.size a) (e : o = ![σ.val, 0, 512 * h.val]) {hl} {hs} {hm}
    (k : PUnit → TP F PUnit) (Q : PUnit → sProp 𝕄) :
    iprop(ready m c t σ q h.val ∗ (ready m c t σ q (h.val + 1) -∗ wpc c (k ⟨⟩) Q))
      ⊢ wpc c (.op (.load sbM (Rect.unit (s := S2x512x1024) o S1x512x512.size ho).toLoadRect hl) fun _ =>
          .op (.store sbM (Rect.unit (s := S2x512x1024) o S1x512x512.size ho) (k0_pay3 (scl m c) (k0_pay1 (xblk m c)) (wblk m c j)) Finset.univ hs hm) k) Q := by
  subst e
  unfold ready
  iintro ⟨⟨⟨%f, %hf, Hr⟩, Hrest⟩, Hk⟩
  iapply (wp_load_rect 𝒱₀ (c : Thread nD τ) none Set.univ (m := sbM) (r := slotHalf σ h) (S := (slotM σ).view.set) (q := fullShare) (f := f) (slotHalf_sub σ h)) $$ Hr
  iintro Hr
  iapply (wp_store 𝒱₀ (c : Thread nD τ) none Set.univ (m := sbM) (r := slotHalf σ h) (S := (slotM σ).view.set) (f := f) (slotHalf_sub σ h)) $$ Hr
  iintro Hr
  iapply Hk
  isplitl [Hr]
  · iexists _
    isplitr
    rotate_left
    · iexact Hr
    · ipureintro; exact slotOK_write m c t σ h j hj f hf
  iexact Hrest

/-- The copy of a full slot to device `t`. -/
theorem send_step {α : Type} (K : GSem nD τ sig → ℕ) (c t t' : Dev nD) (ht : t ≠ c) (ht' : t' = t) (σ : Fin 2) (k : ℕ) (hk : k + σ.val < 4) (W : Waits sig Unit)
    (o5 : Fin 1 → ℕ) (ho5 : ∀ a, o5 a + S1.size a ≤ S2.size a) (e5 : o5 = ![σ.val])
    (o6 : Fin 1 → ℕ) (ho6 : ∀ a, o6 a + S1.size a ≤ S8.size a) (e6 : o6 = ![c.val])
    (o7 : Fin 2 → ℕ) (ho7 : ∀ a, o7 a + S512x1024.size a ≤ S4096x1024.size a) (e7 : o7 = ![512 * c.val, 0])
    (o8 : Fin 3 → ℕ) (ho8 : ∀ a, o8 a + S1x512x1024.size a ≤ S2x512x1024.size a) (e8 : o8 = ![σ.val, 0, 0])
    {h1} {h2} {h3} {h4} (p : PUnit → TP F α) (Q : α → sProp 𝕄) :
    iprop(recs m K ∗ ready m c t σ k 2 ∗ peer c t ∗ owes (c : Thread nD τ) (oRecv c t.val) W)
      ⊢ iprop((slotRes m c σ (.fly k) ∗ owes (c : Thread nD τ) (oRecv c (t.val + 1)) W -∗ wpc c (p ⟨⟩) Q)
        -∗ wpc c (.op (.enqueueDma ((sbM.slice (Rect.unit (s := S2x512x1024) o8 S1x512x1024.size ho8) (fun _ => rfl)).squeeze S512x1024 squeezes_S1x512x1024_S512x1024)
            (.remote (t' : Thread nD τ) (outM.slice (Rect.unit (s := S4096x1024) o7 S512x1024.size ho7) (fun _ => rfl))
              (.dma ((cc0_scratch2.slice (Rect.unit (s := S2) o5 S1.size ho5)).squeeze S_ squeezes_S1_S_).sem) h1)
            (.dma ((cc0_scratch3.slice (Rect.unit (s := S8) o6 S1.size ho6)).squeeze S_ squeezes_S1_S_).sem) h2 h3 h4) p) Q) := by
  subst ht' e5 e6 e7 e8
  have key : ∀ (xs xr : DmaSem sig), xs = sendS σ → xr = recvS c → ∀ {h1} {h2} {h3} {h4},
      iprop(recs m K ∗ ready m c t' σ k 2 ∗ peer c t' ∗ owes (c : Thread nD τ) (oRecv c t'.val) W)
      ⊢ iprop((slotRes m c σ (.fly k) ∗ owes (c : Thread nD τ) (oRecv c (t'.val + 1)) W -∗ wpc c (p ⟨⟩) Q)
        -∗ wpc c (.op (.enqueueDma (slotM σ) (.remote (t' : Thread nD τ) (rowM c) (.dma xs) h1) (.dma xr) h2 h3 h4) p) Q) := by
    rintro _ _ rfl rfl h1 h2 h3 h4
    unfold ready peer
    rw [toks_step c σ k hk]
    iintro ⟨#HR, ⟨⟨%f, %hf, Hs⟩, Hat, Hre, Htk, Htks⟩, ⟨⟨%fd, Hd⟩, Hre', Htk'⟩, HO⟩ Hk
    iapply (Rounds.wp_send_pointsTo 𝒱₀ ER (rd m) (c : Thread nD τ) none (c' := (t' : Thread nD τ)) (src := slotM σ) (dst := rowM c)
        (sS := .dma (sendS σ)) (sem := .dma (recvS c)) (q := fullShare) (fs := f) (κ₁ := K (sendCell c σ)) (κ₂ := K (recvCell t' c))
        (r₁ := k) (r₂ := 0) (d₁ := c) (d₂ := c) (fd := fd)
        (by rw [duties_send, if_pos hk]; exact Finset.mem_singleton_self _) (by rw [duties_recv, if_pos ⟨rfl, fun e => ht e.symm⟩]; exact Finset.mem_singleton_self _)
        () () N (N_row c) rfl rfl (O₀ := oRecv c t'.val) (oRecv c (t'.val + 1)) (by rw [oRecv_step c t'.val t'.isLt, if_neg ht, add_comm]) (W := W)
        (by rw [payload_send]; unfold sendPay; iintro H; iexists f; iexact H)
        (by rw [payload_recv]; unfold recvPay; exact Entails.of_eq (pointsTo_congr (landed m c t' σ fd f hf)))) $$ [Hs Hre Htk Hd Hre' Htk' HO]
    · isplitr; · iapply (inv_at m K (send_mem c σ)); iexact HR
      isplitr; · iapply (inv_at m K (recv_mem t' c)); iexact HR
      isplitl [Hs]; · iexact Hs
      isplitl [Hd]; · iexact Hd
      isplitl [HO]; · iexact HO
      isplitl [Htk]; · iexact Htk
      isplitl [Hre]; · iexact Hre
      isplitl [Htk']; · iexact Htk'
      iexact Hre'
    iintro ⟨Hc, HO⟩
    iapply Hk
    unfold slotRes
    isplitr [HO]
    · isplitl [Hc]; · iexact Hc
      isplitl [Hat] <;> iassumption
    iexact HO
  exact key _ _ (sem_send σ ho5) (sem_recv c ho6)

end Cert.Exchange
-- ==== Proof.Point.lean ====
/-
  One point of the kernel: the pieces of its body, one after the other.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## A product for another device -/

section Peer

variable (K : GSem nD τ sig → ℕ) (c : Dev nD) (i : grid0.Coords)

/-- A point of the device's own half leaves what the copies work on, but for its own place among the devices. -/
theorem exch_own (ht : tgt i = c) : (exch m c (pt i).val : sProp 𝕄) ⊢ exch m c ((pt i).val + 1) := by
  have hv : (pt i).val / 2 = c.val := congrArg Fin.val ht
  have hc : c.val < 8 := c.isLt
  unfold exch slots
  rw [slotAt_own c i 0 ht, slotAt_own c i 1 ht]
  rcases Nat.mod_two_eq_zero_or_one (pt i).val with h0 | h1
  · rw [show ((pt i).val + 1) / 2 = (pt i).val / 2 by omega]
  · rw [show ((pt i).val + 1) / 2 = (pt i).val / 2 + 1 by omega, hv]
    unfold peers owed
    rw [tail_step _ c.val hc, oRecv_step c c.val hc, if_pos (show (⟨c.val, hc⟩ : Dev nD) = c from rfl), if_pos (show (⟨c.val, hc⟩ : Dev nD) = c from rfl), zero_add]
    iintro ⟨⟨-, Hp⟩, HO, Hs⟩
    isplitl [Hp]; · iexact Hp
    isplitl [HO] <;> iassumption

/-- The slot a point's target uses, and the other put back. -/
theorem slots_acc (ht : tgt i ≠ c) : (slots m c (pt i).val : sProp 𝕄)
    ⊢ iprop(slotRes m c (slotOf c (tgt i)) (slotAt c (slotOf c (tgt i)) (pt i).val)
        ∗ (slotRes m c (slotOf c (tgt i)) (slotAt c (slotOf c (tgt i)) ((pt i).val + 1)) -∗ slots m c ((pt i).val + 1))) := by
  unfold slots
  rcases (show slotOf c (tgt i) = 0 ∨ slotOf c (tgt i) = 1 by
    have h : ∀ σ : Fin 2, σ = 0 ∨ σ = 1 := by decide
    exact h _) with h | h
  · rw [slotAt_other c i 1 (by rw [h]; decide), h]
    iintro ⟨H0, H1⟩
    isplitl [H0]; · iexact H0
    iintro H0
    isplitl [H0] <;> iassumption
  · rw [slotAt_other c i 0 (by rw [h]; decide), h]
    iintro ⟨H0, H1⟩
    isplitl [H1]; · iexact H1
    iintro H1
    isplitl [H0] <;> iassumption

theorem free_run (ht : tgt i ≠ c) (h4 : k0_cond4 i c = 1#1) (k : TP F PUnit) (Q : PUnit → sProp 𝕄) :
    iprop(recs m K ∗ slotRes m c (slotOf c (tgt i)) (slotAt c (slotOf c (tgt i)) (pt i).val) ∗ owed c ((pt i).val / 2)
        ∗ (ready m c (tgt i) (slotOf c (tgt i)) (ord c (tgt i) / 2) (hlf i) ∗ owed c ((pt i).val / 2) -∗ wpc c k Q))
      ⊢ wpc c (freeProg i c h4 k) Q := by
  have hlt := round_lt c (tgt i) ht
  have hh : hlf i = 0 ∨ hlf i = 1 := Nat.mod_two_eq_zero_or_one _
  unfold freeProg
  by_cases h : k0_cond5 i c = 1#1
  · rw [dif_pos h]
    obtain ⟨h0, h2⟩ := (cond5_iff i c ht).mp h
    obtain ⟨r, hr⟩ : ∃ r, ord c (tgt i) / 2 = r + 1 := ⟨ord c (tgt i) / 2 - 1, by omega⟩
    rw [slotAt_again c i ht h0 h2, h0, hr, Nat.add_sub_cancel]
    rw [hr] at hlt
    simp only [Prog.lift, Prog.bind_op, Prog.bind_ret]
    unfold slotRes ready owed
    iintro ⟨#HR, ⟨Hc, Hat, Htk⟩, ⟨%W, HO⟩, Hk⟩
    iapply (send_wait m K c (slotOf c (tgt i)) r (by omega) ((pt i).val / 2) W _ _ (off2_eq i c ht) _ _ (off3_eq i c ht)) $$ [Hc Hat HO]
    · isplitr; · iexact HR
      isplitl [Hc]; · iexact Hc
      isplitl [Hat] <;> iassumption
    iintro ⟨HO, ⟨%f, Hs⟩, Hat, Hre⟩
    iapply Hk
    isplitr [HO]
    · isplitl [Hs]
      · iexists f; isplitr; · ipureintro; exact slotOK_zero m c _ _ f
        iexact Hs
      isplitl [Hat]; · iexact Hat
      isplitl [Hre] <;> iassumption
    iexists _; iexact HO
  · rw [dif_neg h]
    rcases hh with h0 | h1
    · have h2 : ord c (tgt i) < 2 := by
        by_contra h2; exact h ((cond5_iff i c ht).mpr ⟨h0, by omega⟩)
      rw [slotAt_first c i ht h0 h2, h0]
      unfold slotRes ready
      iintro ⟨-, ⟨⟨%f, Hs⟩, Hrest⟩, HO, Hk⟩
      iapply Hk
      isplitr [HO]
      · isplitl [Hs]
        · iexists f; isplitr; · ipureintro; exact slotOK_zero m c _ _ f
          iexact Hs
        iexact Hrest
      iexact HO
    · rw [slotAt_half c i ht h1, h1]
      unfold slotRes ready
      iintro ⟨-, Hs, HO, Hk⟩
      iapply Hk
      isplitl [Hs] <;> iassumption

theorem send_run (ht : tgt i ≠ c) (h4 : k0_cond4 i c = 1#1) (k : TP F PUnit) (Q : PUnit → sProp 𝕄) :
    iprop(recs m K ∗ ready m c (tgt i) (slotOf c (tgt i)) (ord c (tgt i) / 2) (hlf i + 1) ∗ peers c ((pt i).val / 2) ∗ owed c ((pt i).val / 2)
        ∗ (slotRes m c (slotOf c (tgt i)) (slotAt c (slotOf c (tgt i)) ((pt i).val + 1)) ∗ peers c (((pt i).val + 1) / 2) ∗ owed c (((pt i).val + 1) / 2) -∗ wpc c k Q))
      ⊢ wpc c (sendProg i c h4 k) Q := by
  have hlt := round_lt c (tgt i) ht
  have hp : (tgt i).val = (pt i).val / 2 := rfl
  have hp8 : (pt i).val / 2 < 8 := (tgt i).isLt
  unfold sendProg
  by_cases h : k0_cond6 i = 1#1
  · rw [dif_pos h]
    have h1 := (cond6_iff i).mp h
    have h1' : (pt i).val % 2 = 1 := h1
    rw [slotAt_sent c i ht h1, h1, show ((pt i).val + 1) / 2 = (pt i).val / 2 + 1 by omega]
    simp only [Prog.lift, Prog.bind_op, Prog.bind_ret]
    unfold peers owed
    rw [tail_step _ _ hp8, if_neg (show ¬ (⟨(pt i).val / 2, hp8⟩ : Dev nD) = c from ht)]
    iintro ⟨#HR, Hr, ⟨Hp, Hps⟩, ⟨%W, HO⟩, Hk⟩
    iapply (send_step m K c (tgt i) _ ht (Fin.ext (dev9_eq i)) (slotOf c (tgt i)) (ord c (tgt i) / 2) hlt W
      _ _ (off5_eq i c ht) _ _ (k0_off6_eq c) _ _ (k0_off7_eq c) _ _ (off8_eq i c ht)) $$ [Hr Hp HO]
    · isplitr; · iexact HR
      isplitl [Hr]; · iexact Hr
      isplitl [Hp]; · iexact Hp
      iexact HO
    iintro ⟨Hs, HO⟩
    iapply Hk
    isplitl [Hs]; · iexact Hs
    isplitl [Hps]; · iexact Hps
    iexists W; iexact HO
  · rw [dif_neg h]
    have h0 : hlf i = 0 := by
      rcases Nat.mod_two_eq_zero_or_one (pt i).val with h0 | h1
      · exact h0
      · exact absurd ((cond6_iff i).mpr h1) h
    have h0' : (pt i).val % 2 = 0 := h0
    rw [slotAt_filled c i ht h0, h0, show ((pt i).val + 1) / 2 = (pt i).val / 2 by omega]
    unfold slotRes ready
    iintro ⟨-, Hs, Hp, HO, Hk⟩
    iapply Hk
    isplitl [Hs]; · iexact Hs
    isplitl [Hp] <;> iassumption

theorem peer_run (k : TP F PUnit) (Q : PUnit → sProp 𝕄) :
    iprop(recs m K ∗ exch m c (pt i).val ∗ (exch m c ((pt i).val + 1) -∗ wpc c k Q))
      ⊢ wpc c (peerProg i c (k0_pay3 (scl m c) (k0_pay1 (xblk m c)) (wblk m c (pt i))) k) Q := by
  unfold peerProg
  by_cases h4 : k0_cond4 i c = 1#1
  · rw [dif_pos h4]
    have ht := (cond4_iff i c).mp h4
    unfold exch
    iintro ⟨#HR, ⟨Hp, HO, Hs⟩, Hk⟩
    ihave Hs' := (slots_acc m c i ht) $$ Hs
    icases Hs' with ⟨Hs, Hback⟩
    iapply (free_run m K c i ht h4)
    isplitr; · iexact HR
    isplitl [Hs]; · iexact Hs
    isplitl [HO]; · iexact HO
    iintro ⟨Hr, HO⟩
    unfold fillProg
    simp only [Prog.lift, Prog.bind_op, Prog.bind_ret]
    iapply (fill_step m c (tgt i) (slotOf c (tgt i)) ⟨hlf i, Nat.mod_lt _ (by decide)⟩ (pt i)
      (by show (pt i).val = 2 * ((pt i).val / 2) + (pt i).val % 2; omega) (ord c (tgt i) / 2) _ _ (off4_eq i c ht))
    isplitl [Hr]; · iexact Hr
    iintro Hr
    iapply (send_run m K c i ht h4)
    isplitr; · iexact HR
    isplitl [Hr]; · iexact Hr
    isplitl [Hp]; · iexact Hp
    isplitl [HO]; · iexact HO
    iintro ⟨Hs, Hp, HO⟩
    iapply Hk
    isplitl [Hp]; · iexact Hp
    isplitl [HO]; · iexact HO
    iapply Hback
    iexact Hs
  · rw [dif_neg h4]
    have ht : tgt i = c := by
      by_contra e; exact h4 ((cond4_iff i c).mpr e)
    iintro ⟨-, H, Hk⟩
    iapply Hk
    iapply (exch_own m c i ht)
    iexact H

end Peer

/-! ## The waits of the last point -/

/-- What device `c` holds for its receive cell `s` and the rows it is for: before the wait, and after. -/
def ini (c s : Dev nD) : sProp 𝕄 :=
  iprop(atPos ER (recvCell c s) 0 ∅ 0 ∗ if s = c then rowPts c c (outFinal m c) else cred (tallyAt (recvCell c s) () N))
def fin (c s : Dev nD) : sProp 𝕄 := iprop(rowPts c s (outFinal m c) ∗ semVal (recvCell c s) 0)
def half (c : Dev nD) (k : ℕ) : sProp 𝕄 := bigSep Finset.univ fun s : Dev nD => if s.val < k then fin m c s else ini m c s

theorem half_step (c : Dev nD) (k : ℕ) (hk : k < 8) :
    (half m c k : sProp 𝕄) ⊢ iprop(ini m c ⟨k, hk⟩ ∗ (fin m c ⟨k, hk⟩ -∗ half m c (k + 1))) := by
  unfold half
  rw [bigSep_univ_at (fun s : Dev nD => if s.val < k then fin m c s else ini m c s) ⟨k, hk⟩,
    bigSep_univ_at (fun s : Dev nD => if s.val < k + 1 then fin m c s else ini m c s) ⟨k, hk⟩,
    if_neg (Nat.lt_irrefl k), if_pos (Nat.lt_succ_self k),
    bigSep_congr (s := Finset.univ.erase (⟨k, hk⟩ : Dev nD)) (Φ := fun s : Dev nD => if s.val < k + 1 then fin m c s else ini m c s)
      (Ψ := fun s : Dev nD => if s.val < k then fin m c s else ini m c s) fun s hs => by
        have hne : s.val ≠ k := fun e => Finset.ne_of_mem_erase hs (Fin.ext e)
        by_cases h : s.val < k
        · rw [if_pos h, if_pos (by omega)]
        · rw [if_neg h, if_neg (by omega)]]
  iintro ⟨H, Hr⟩
  isplitl [H]; · iexact H
  iintro H
  isplitl [H] <;> iassumption

theorem half_zero (c : Dev nD) : iprop(rowPts c c (outFinal m c) ∗ rcv c 0) ⊢ (half m c 0 : sProp 𝕄) := by
  unfold half rcv
  rw [tail_zero, bigSep_univ_at (fun s : Dev nD => if s.val < 0 then fin m c s else ini m c s) c, if_neg (Nat.not_lt_zero _),
    bigSep_univ_at (fun s : Dev nD => iprop(atPos ER (recvCell c s) 0 ∅ 0 ∗ if s = c then iprop(emp) else cred (tallyAt (recvCell c s) () N))) c,
    bigSep_congr (s := Finset.univ.erase c) (Φ := fun s : Dev nD => if s.val < 0 then fin m c s else ini m c s)
      (Ψ := fun s : Dev nD => iprop(atPos ER (recvCell c s) 0 ∅ 0 ∗ if s = c then iprop(emp) else cred (tallyAt (recvCell c s) () N))) fun s hs => by
        rw [if_neg (Nat.not_lt_zero _)]; unfold ini; rw [if_neg (Finset.ne_of_mem_erase hs), if_neg (Finset.ne_of_mem_erase hs)]]
  unfold ini
  rw [if_pos rfl, if_pos rfl]
  iintro ⟨Hr, ⟨Hat, -⟩, Hs⟩
  isplitr [Hs]
  · isplitl [Hat] <;> iassumption
  iexact Hs

/-- All rows in, the buffer whole. -/
theorem half_end (c : Dev nD) : (half m c 8 : sProp 𝕄) ⊢ iprop(outPts c (outFinal m c) ∗ bigSep Finset.univ fun s : Dev nD => semVal (recvCell c s) 0) := by
  unfold half
  rw [bigSep_congr (s := Finset.univ) (Φ := fun s : Dev nD => if s.val < 8 then fin m c s else ini m c s) (Ψ := fun s => fin m c s)
    fun s _ => if_pos s.isLt]
  unfold fin
  refine (Entails.of_eq (bigSep_sep _ _ _)).trans (sep_mono_left (Entails.of_eq ?_))
  have h := pointsTo_biUnion (Ix := Unit) (Name := ℕ) (U := UU) (Lvl := ℕ) (Val := Elt F) (ℓ := (c : Thread nD τ).loc cc0_stg4_0) (q := fullShare) (f := outFinal m c)
    (Finset.univ : Finset (Dev nD)) rowSet (fun r _ r' _ hne => rows_disjoint hne)
  rw [rows_cover] at h
  exact h.symm

section End

variable (K : GSem nD τ sig → ℕ) (c : Dev nD)

/-- The wait for device `s`'s rows, and the cell it was on taken out of use. -/
theorem recv_run (s : Dev nD) (b : Prop) [Decidable b] (hb : b ↔ s ≠ c)
    (o : Fin 1 → ℕ) (ho : ∀ a, o a + S1.size a ≤ S8.size a) (e : o = ![s.val])
    (o' : Fin 2 → ℕ) (ho' : ∀ a, o' a + S512x1024.size a ≤ S4096x1024.size a) (e' : o' = ![512 * s.val, 0])
    (k : TP F PUnit) (Q : PUnit → sProp 𝕄) :
    iprop(recs m K ∗ half m c s.val ∗ (∃ W, owes (c : Thread nD τ) (0 : CellTallies nD τ sig Unit) W)
        ∗ (half m c (s.val + 1) ∗ (∃ W, owes (c : Thread nD τ) (0 : CellTallies nD τ sig Unit) W) -∗ wpc c k Q))
      ⊢ wpc c (recvProg b o ho o' ho' k) Q := by
  subst e e'
  unfold recvProg
  iintro ⟨#HR, Hh, ⟨%W, HO⟩, Hk⟩
  ihave Hh' := (half_step m c s.val s.isLt) $$ Hh
  icases Hh' with ⟨Hi, Hback⟩
  by_cases h : b
  · have hs := hb.mp h
    rw [dif_pos h]
    simp only [Prog.lift, Prog.bind_op, Prog.bind_ret]
    rw [sem_recv]
    unfold ini
    rw [if_neg (show ¬ (⟨s.val, s.isLt⟩ : Dev nD) = c from hs)]
    icases Hi with ⟨Hat, Hc⟩
    iapply (Rounds.wp_wait_rest_token 𝒱₀ ER (rd m) (c : Thread nD τ) none (κ := K (recvCell c s))
        (wpE_waitDma2_eq (dst := rowM s) 𝒱₀ (c : Thread nD τ) none Set.univ) (Set.mem_univ _) () (O := 0) (W := W) (R := 0) (m := 0) (T := ∅)
        ((Nat.zero_add _).trans ((N_row s).trans (expect_recv m c s hs).symm))) $$ [Hc Hat HO]
    · isplitr; · iapply (inv_at m K (recv_mem c s)); iexact HR
      isplitl [Hc]; · rw [N_row]; iexact Hc
      isplitl [HO]; · iexact HO
      isplitr; · rw [MayWait_zero]; iempintro
      iexact Hat
    iintro ⟨HO, Hat, -, Hpay⟩
    ihave Hp := (Entails.of_eq (rest_recv m c s hs)) $$ Hpay
    iapply fupd_wp
    imod (Rounds.cell_close ER (rd m) (g := recvCell c s) (κ := K (recvCell c s)) (Set.mem_univ _) (fun h => h) (R := 0 + 1)
      (fun r hr => by rw [duties_recv, if_neg (by omega)])) $$ [Hat] with Hb
    · isplitr; · iapply (inv_at m K (recv_mem c s)); iexact HR
      iexact Hat
    imodintro
    iapply Hk
    isplitr [HO]
    · iapply Hback
      unfold fin recvPay
      isplitl [Hp] <;> iassumption
    iexists _; iexact HO
  · obtain rfl : s = c := by by_contra hs; exact h (hb.mpr hs)
    rw [dif_neg h]
    unfold ini
    rw [if_pos (show (⟨s.val, s.isLt⟩ : Dev nD) = s from rfl)]
    icases Hi with ⟨Hat, Hr⟩
    iapply fupd_wp
    imod (Rounds.cell_close ER (rd m) (g := recvCell s s) (κ := K (recvCell s s)) (Set.mem_univ _) (fun h => h) (R := 0)
      (fun r hr => by rw [duties_recv, if_neg (fun h => h.2 rfl)])) $$ [Hat] with Hb
    · isplitr; · iapply (inv_at m K (recv_mem s s)); iexact HR
      iexact Hat
    imodintro
    iapply Hk
    isplitr [HO]
    · iapply Hback
      unfold fin
      isplitl [Hr] <;> iassumption
    iexists _; iexact HO

/-- The slots back, the buffer they are cut from whole. -/
theorem slots_join : iprop((∃ f, slotPts c 0 f) ∗ (∃ f, slotPts c 1 f)) ⊢ (iprop(∃ f, sbPts c f) : sProp 𝕄) := by
  iintro ⟨⟨%f, H0⟩, ⟨%g, H1⟩⟩
  ihave H := (show iprop(slotPts c 0 f ∗ slotPts c 1 g) ⊢ ((c : Thread nD τ).loc cc0_scratch1 ↦[slotSet 0 ∪ slotSet 1]{fullShare} ((slotSet 1).piecewise g f) : sProp 𝕄)
    from pointsTo_join slots_disjoint) $$ [H0 H1]
  · isplitl [H0] <;> iassumption
  iexists _
  rw [slots_cover]
  iexact H

/-- The wait for what slot `σ` last sent, and the cell it was on taken out of use. -/
theorem last_run (σ : Fin 2) (r : ℕ) (hr : r + σ.val = 3) (W : Waits sig Unit)
    (o : Fin 1 → ℕ) (ho : ∀ a, o a + S1.size a ≤ S2.size a) (e : o = ![σ.val])
    (o' : Fin 3 → ℕ) (ho' : ∀ a, o' a + S1x512x1024.size a ≤ S2x512x1024.size a) (e' : o' = ![σ.val, 0, 0])
    (k : TP F PUnit) (Q : PUnit → sProp 𝕄) :
    iprop(recs m K ∗ slotRes m c σ (.fly r) ∗ owes (c : Thread nD τ) (oRecv c 8) W
        ∗ ((∃ f, slotPts c σ f) ∗ semVal (sendCell c σ) 0 ∗ owes (c : Thread nD τ) (oRecv c 8) (insert (.dma (sendS σ), ()) W) -∗ wpc c k Q))
      ⊢ wpc c (lastSend o ho o' ho' k) Q := by
  unfold lastSend slotRes
  simp only [Prog.lift, Prog.bind_op, Prog.bind_ret]
  iintro ⟨#HR, ⟨Hc, Hat, -⟩, HO, Hk⟩
  iapply (send_wait m K c σ r (by omega) 8 W _ _ e _ _ e') $$ [Hc Hat HO]
  · isplitr; · iexact HR
    isplitl [Hc]; · iexact Hc
    isplitl [Hat] <;> iassumption
  iintro ⟨HO, Hs, Hat, -⟩
  iapply fupd_wp
  imod (Rounds.cell_close ER (rd m) (g := sendCell c σ) (κ := K (sendCell c σ)) (Set.mem_univ _) (fun h => h) (R := r + 1)
    (fun q hq => by rw [duties_send, if_neg (by omega)])) $$ [Hat] with Hb
  · isplitr; · iapply (inv_at m K (send_mem c σ)); iexact HR
    iexact Hat
  imodintro
  iapply Hk
  isplitl [Hs]; · iexact Hs
  isplitl [Hb] <;> iassumption

theorem end_run (i : grid0.Coords) (k : TP F PUnit) (Q : PUnit → sProp 𝕄) :
    iprop(recs m K ∗ mid m c ((pt i).val + 1) ∗ (post m c (pt i).val -∗ wpc c k Q)) ⊢ wpc c (endProg i c k) Q := by
  unfold endProg post
  by_cases h7 : k0_cond7 i = 1#1
  · have h := (cond7_iff i).mp h7
    rw [dif_pos h7, if_pos h, h]
    unfold mid own exch slots owed done
    rw [slotAt_end0, slotAt_end1]
    iintro ⟨#HR, ⟨⟨%f, %hf, Hown⟩, ⟨-, ⟨%W, HO⟩, Hs0, Hs1⟩, Hrcv, Hbar⟩, Hk⟩
    iapply (last_run m K c 0 3 rfl W _ _ rfl _ _ rfl)
    isplitr; · iexact HR
    isplitl [Hs0]; · iexact Hs0
    isplitl [HO]; · iexact HO
    iintro ⟨Hs0, Hv0, HO⟩
    iapply (last_run m K c 1 2 rfl _ _ _ rfl _ _ rfl)
    isplitr; · iexact HR
    isplitl [Hs1]; · iexact Hs1
    isplitl [HO]; · iexact HO
    iintro ⟨Hs1, Hv1, HO⟩
    rw [oRecv_end]
    ihave Hsb := (slots_join c) $$ [Hs0 Hs1]
    · isplitl [Hs0] <;> iassumption
    ihave Hh := (half_zero m c) $$ [Hown Hrcv]
    · isplitl [Hown]
      · iapply (Entails.of_eq (show (rowPts c c f : sProp 𝕄) = rowPts c c (outFinal m c) from pointsTo_congr (ownOK_end m c f hf)))
        iexact Hown
      iexact Hrcv
    ihave HW := (show owes (c : Thread nD τ) (0 : CellTallies nD τ sig Unit) _ ⊢ (iprop(∃ W, owes (c : Thread nD τ) (0 : CellTallies nD τ sig Unit) W) : sProp 𝕄) from exists_intro _) $$ HO
    iapply (recv_run m K c 0 _ ((cond8_iff c).trans ⟨Ne.symm, Ne.symm⟩) _ _ rfl _ _ rfl)
    isplitr; · iexact HR
    isplitl [Hh]; · iexact Hh
    isplitl [HW]; · iexact HW
    iintro ⟨Hh, HW⟩
    iapply (recv_run m K c 1 _ ((cond9_iff c).trans ⟨Ne.symm, Ne.symm⟩) _ _ rfl _ _ rfl)
    isplitr; · iexact HR
    isplitl [Hh]; · iexact Hh
    isplitl [HW]; · iexact HW
    iintro ⟨Hh, HW⟩
    iapply (recv_run m K c 2 _ ((cond10_iff c).trans ⟨Ne.symm, Ne.symm⟩) _ _ rfl _ _ rfl)
    isplitr; · iexact HR
    isplitl [Hh]; · iexact Hh
    isplitl [HW]; · iexact HW
    iintro ⟨Hh, HW⟩
    iapply (recv_run m K c 3 _ ((cond11_iff c).trans ⟨Ne.symm, Ne.symm⟩) _ _ rfl _ _ rfl)
    isplitr; · iexact HR
    isplitl [Hh]; · iexact Hh
    isplitl [HW]; · iexact HW
    iintro ⟨Hh, HW⟩
    iapply (recv_run m K c 4 _ ((cond12_iff c).trans ⟨Ne.symm, Ne.symm⟩) _ _ rfl _ _ rfl)
    isplitr; · iexact HR
    isplitl [Hh]; · iexact Hh
    isplitl [HW]; · iexact HW
    iintro ⟨Hh, HW⟩
    iapply (recv_run m K c 5 _ ((cond13_iff c).trans ⟨Ne.symm, Ne.symm⟩) _ _ rfl _ _ rfl)
    isplitr; · iexact HR
    isplitl [Hh]; · iexact Hh
    isplitl [HW]; · iexact HW
    iintro ⟨Hh, HW⟩
    iapply (recv_run m K c 6 _ ((cond14_iff c).trans ⟨Ne.symm, Ne.symm⟩) _ _ rfl _ _ rfl)
    isplitr; · iexact HR
    isplitl [Hh]; · iexact Hh
    isplitl [HW]; · iexact HW
    iintro ⟨Hh, HW⟩
    iapply (recv_run m K c 7 _ ((cond15_iff c).trans ⟨Ne.symm, Ne.symm⟩) _ _ rfl _ _ rfl)
    isplitr; · iexact HR
    isplitl [Hh]; · iexact Hh
    isplitl [HW]; · iexact HW
    iintro ⟨Hh, HW⟩
    ihave Ho := (show half m c ((7 : Dev nD).val + 1) ⊢ _ from half_end m c) $$ Hh
    icases Ho with ⟨Ho, Hrs⟩
    iapply Hk
    isplitl [Ho]; · iexact Ho
    isplitl [Hsb]; · iexact Hsb
    isplitl [HW]; · iexact HW
    isplitl [Hv0 Hv1]
    · isplitl [Hv0] <;> iassumption
    isplitl [Hrs] <;> iassumption
  · rw [dif_neg h7, if_neg (fun h => h7 ((cond7_iff i).mpr h))]
    iintro ⟨-, Hm, Hk⟩
    iapply Hk
    iexact Hm

/-! ## The body -/

abbrev sxPts (f : Vec F S1 .f32) : sProp 𝕄 := (c : Thread nD τ).loc cc0_stg0_0 ↦{fullShare} f
abbrev swPts (f : Vec F S1 .f32) : sProp 𝕄 := (c : Thread nD τ).loc cc0_stg1_0 ↦{fullShare} f

theorem first_one : ∀ x : S1.Idx, x = ix1 0 := by decide

theorem sx_load (f : Vec F S1 .f32) (Q : Elt F .f32 → sProp 𝕄) :
    sxPts c f ⊢ iprop((sxPts c f -∗ Q (f (ix1 0))) -∗ wpc c (smemLoad sxM (Rect.unit (s := S1) ![0] S1.size inb_S1_S1_0) numel1_S1 rfl) Q) := by
  iintro Hs Hk
  iapply (wp_smemLoadElt (defs := defs₀ (F := F)) 𝒱₀ (c : Thread nD τ) none Set.univ (Γ := PendingWaitsCtx.empty) (m := sxM) (r := Rect.unit (s := S1) ![0] S1.size inb_S1_S1_0)
    (S := Finset.univ) (q := fullShare) (f := f) (Finset.subset_univ _)) $$ Hs
  iintro Hs
  rw [wp_ret]
  imodintro
  have e : ∀ x, (sxM.access (Rect.unit (s := S1) ![0] S1.size inb_S1_S1_0)).read (Elt F) f x = f (ix1 0) := fun x => congrArg f (first_one _)
  rw [e]
  iapply Hk
  iexact Hs
theorem sw_load (f : Vec F S1 .f32) (Q : Elt F .f32 → sProp 𝕄) :
    swPts c f ⊢ iprop((swPts c f -∗ Q (f (ix1 0))) -∗ wpc c (smemLoad swM (Rect.unit (s := S1) ![0] S1.size inb_S1_S1_0) numel1_S1 rfl) Q) := by
  iintro Hs Hk
  iapply (wp_smemLoadElt (defs := defs₀ (F := F)) 𝒱₀ (c : Thread nD τ) none Set.univ (Γ := PendingWaitsCtx.empty) (m := swM) (r := Rect.unit (s := S1) ![0] S1.size inb_S1_S1_0)
    (S := Finset.univ) (q := fullShare) (f := f) (Finset.subset_univ _)) $$ Hs
  iintro Hs
  rw [wp_ret]
  imodintro
  have e : ∀ x, (swM.access (Rect.unit (s := S1) ![0] S1.size inb_S1_S1_0)).read (Elt F) f x = f (ix1 0) := fun x => congrArg f (first_one _)
  rw [e]
  iapply Hk
  iexact Hs

/-- The body at one point. -/
theorem body_run (i : grid0.Coords) (arg4 : Memref sig .tc .vmem S4096x512 .fp8e4m3) (h4 : arg4.IsWhole)
    (g : Buf (Elt F) (arg4.view.loc (c : Thread nD τ)))
    (hg : arg4.view.readAt (Elt F) (Rect.unit (s := S4096x512) ![0, 0] S4096x512.size inb_S4096x512_S4096x512_0_0).toLoadRect g = wblk m c (pt i))
    (Q : PUnit → sProp 𝕄) :
    iprop(recs m K ∗ (sxPts c (sxv m c) ∗ swPts c (swv m c) ∗ xPts c (xblk m c) ∗ (arg4.view.loc (c : Thread nD τ) ↦{fullShare} g))
        ∗ xqAt m c (pt i).val ∗ pre m c (pt i).val
        ∗ ((sxPts c (sxv m c) ∗ swPts c (swv m c) ∗ xPts c (xblk m c) ∗ (arg4.view.loc (c : Thread nD τ) ↦{fullShare} g))
          ∗ xqPts c (k0_pay1 (xblk m c)) ∗ post m c (pt i).val -∗ Q ⟨⟩))
      ⊢ wpc c (bodyOf i arg4 h4) Q := by
  have hload := fun k => wp_load (defs := defs₀ (F := F)) 𝒱₀ (c : Thread nD τ) none Set.univ (Q := Q) (Γ := PendingWaitsCtx.empty) (m := arg4)
    (r := (Rect.unit (s := S4096x512) ![0, 0] S4096x512.size inb_S4096x512_S4096x512_0_0).toLoadRect)
    (hl := View.loadsAt_vmem h_S4096x512) (k := k) (S := Finset.univ) (q := fullShare) (f := g) (Finset.subset_univ _)
  rw [hg] at hload
  rw [body_eq]
  unfold bodyProg
  simp only [wp_bind, Prog.lift, wp_deviceId, wp_ret]
  iintro ⟨#HR, ⟨Hsx, Hsw, Hx, Hw⟩, Hxq, Hpre, Hk⟩
  iapply fupd_intro
  iapply (sx_load c (sxv m c)) $$ Hsx
  iintro Hsx
  iapply (sw_load c (swv m c)) $$ Hsw
  iintro Hsw
  iapply (hand_run m K c i)
  isplitr; · iexact HR
  isplitl [Hpre]; · iexact Hpre
  unfold mid
  iintro ⟨Hown, Hex, Hrcv, Hbar⟩
  iapply (cast_run m c i)
  isplitl [Hx]; · iexact Hx
  isplitl [Hxq]; · iexact Hxq
  iintro ⟨Hx, Hxq⟩
  simp only [Prog.lift, Prog.bind_op, Prog.bind_ret]
  iapply (xq_load c (k0_pay1 (xblk m c))) $$ Hxq
  iintro Hxq
  iapply (hload _) $$ Hw
  iintro Hw
  iapply (own_run m c i)
  isplitl [Hown]; · iexact Hown
  iintro Hown
  iapply (peer_run m K c i)
  isplitr; · iexact HR
  isplitl [Hex]; · iexact Hex
  iintro Hex
  iapply (end_run m K c i)
  isplitr; · iexact HR
  isplitl [Hown Hex Hrcv Hbar]
  · unfold mid
    isplitl [Hown]; · iexact Hown
    isplitl [Hex]; · iexact Hex
    isplitl [Hrcv] <;> iassumption
  iintro Hpost
  rw [show (pure ⟨⟩ : TP F PUnit) = .ret ⟨⟩ from rfl]
  unfold wpc
  rw [wp_ret]
  imodintro
  iapply Hk
  isplitl [Hsx Hsw Hx Hw]
  · isplitl [Hsx]; · iexact Hsx
    isplitl [Hsw]; · iexact Hsw
    isplitl [Hx] <;> iassumption
  isplitl [Hxq] <;> iassumption

end End

end Cert.Exchange
-- ==== Proof.Iter.lean ====
/-
  The pipeline's iterations on this kernel's grid and windows, as the operations they are.
-/
module

public import proofs.«01_k».proof.Proof.Point
public import proofs.«01_k».proof.Proof.Gen.KernelIdeal.Launch
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Cfg)

variable {F : FTy → Type} [FloatOps F]

abbrev adm : (p : Fin 1) → (pcfgs (F := F) p).Adm := fun p => (cfgs p).toPCfg_adm

variable (F) in
/-- A program around the pallas_call. -/
abbrev LP (α : Type) := Prog (TpuEff nD τ sig (Elt F) (Pipeline.Sig Λ₀ (Fin 1) fun p => (pcfgs (F := F) p).Adm) .tc) α

def iter (ℓ : ℕ) : LP F PUnit := cfg0.iter (0 : Fin 1) (adm 0) ℓ
def startIn (w : Fin 5) (t : Fin grid0.N) (k : LP F PUnit) : LP F PUnit := .op (cfg0.startIn w t) fun _ => k
def waitIn (w : Fin 5) (t : Fin grid0.N) (k : LP F PUnit) : LP F PUnit := .op (cfg0.waitIn w t) fun _ => k
def startOut (w : Fin 5) (t : Fin grid0.N) (k : LP F PUnit) : LP F PUnit := .op (cfg0.startOut w t) fun _ => k
def waitOut (w : Fin 5) (t : Fin grid0.N) (k : LP F PUnit) : LP F PUnit := .op (cfg0.waitOut w t) fun _ => k
def callBody (t : Fin grid0.N) (k : LP F PUnit) : LP F PUnit := .op (.call (Pipeline.kernel (0 : Λ₀.Label)) (t, cfg0.slots t)) fun _ => k
def next (ℓ : ℕ) : LP F PUnit := .op (.call (Pipeline.pipe (0 : Fin 1)) (adm 0, ℓ)) fun _ => .ret ⟨⟩

theorem each5 (p : Fin 5 → Bool) (f : Fin 5 → LP F PUnit → LP F PUnit) (k : LP F PUnit) :
    cfg0.eachWin p f k
      = (if p 0 then f 0 else id) ((if p 1 then f 1 else id) ((if p 2 then f 2 else id) ((if p 3 then f 3 else id) ((if p 4 then f 4 else id) k)))) := by
  have h : List.finRange 5 = [0, 1, 2, 3, 4] := by decide
  unfold Cfg.eachWin
  show (List.finRange 5).foldr _ k = _
  rw [h]
  simp only [List.foldr]
  cases p 0 <;> cases p 1 <;> cases p 2 <;> cases p 3 <;> cases p 4 <;> rfl

section Flags

variable (t : Fin grid0.N)

theorem fetch_low (h : t.val = 0) : (cfg0.win 0).fetch t = true ∧ (cfg0.win 1).fetch t = true ∧ (cfg0.win 2).fetch t = true :=
  ⟨(fetch0_0 t).mpr (by omega), (fetch0_1 t).mpr (by omega), (fetch0_2 t).mpr (by omega)⟩
theorem fetch_high (h : t.val ≠ 0) : (cfg0.win 0).fetch t = false ∧ (cfg0.win 1).fetch t = false ∧ (cfg0.win 2).fetch t = false := by
  have ht : t.val < 16 := lt_of_lt_of_eq t.isLt N_0
  refine ⟨Bool.eq_false_iff.mpr fun e => h ?_, Bool.eq_false_iff.mpr fun e => h ?_, Bool.eq_false_iff.mpr fun e => h ?_⟩
  · have := (fetch0_0 t).mp e; omega
  · have := (fetch0_1 t).mp e; omega
  · have := (fetch0_2 t).mp e; omega
theorem fetch_out : (cfg0.win 4).fetch t = false := rfl
theorem flush_in (w : Fin 5) (h : w ≠ 4) : (cfg0.win w).flush t = false := by
  rcases w with ⟨_ | _ | _ | _ | _ | _, hw⟩ <;> first | rfl | exact absurd rfl h | omega
theorem flush_last (h : t.val = 15) : (cfg0.win 4).flush t = true := (flush0_4 t).mpr (by omega)
theorem flush_not (h : t.val ≠ 15) : (cfg0.win 4).flush t = false := by
  have ht : t.val < 16 := lt_of_lt_of_eq t.isLt N_0
  refine Bool.eq_false_iff.mpr fun e => h ?_
  have := (flush0_4 t).mp e; omega
theorem single_0 : (win0 0).single = true := rfl
theorem single_1 : (win0 1).single = true := rfl
theorem single_2 : (win0 2).single = true := rfl
theorem single_3 : (win0 3).single = false := rfl
theorem single_4 : (win0 4).single = true := rfl

/-- What iteration `ℓ` does for the point it starts the blocks of, and for the one before it. -/
theorem fetchIn_eq (w : Fin 5) (k : LP F PUnit) : cfg0.fetchIn w t k = startIn w t k := by
  rcases w with ⟨_ | _ | _ | _ | _ | _, hw⟩ <;> first | rfl | omega

end Flags

/-- The part of an iteration at a point `u`: wait, body, write back. -/
def part (u : Fin grid0.N) (k : LP F PUnit) : LP F PUnit :=
  cfg0.eachWin (fun w => (cfg0.win w).fetch u) (fun w k => .op (cfg0.waitIn w u) fun _ => k) <|
    .op (.call (Pipeline.kernel cfg0.body) (cfg0.bodyArgs u (cfg0.slots u))) fun _ =>
    cfg0.eachWin (fun w => (cfg0.win w).flush u) (fun w k => .op (cfg0.startOut w u) fun _ => k) <|
    cfg0.eachWin (fun w => (cfg0.win w).single && (cfg0.win w).flush u) (fun w k => .op (cfg0.waitOut w u) fun _ => k) k

theorem part_first (u : Fin grid0.N) (h : u.val = 0) (k : LP F PUnit) :
    part u k = waitIn 0 u (waitIn 1 u (waitIn 2 u (waitIn 3 u (callBody u k)))) := by
  obtain ⟨h0, h1, h2⟩ := fetch_low u h
  unfold part
  simp only [each5, h0, h1, h2, fetch0_3 u, fetch_out u, flush_in u 0 (by decide), flush_in u 1 (by decide), flush_in u 2 (by decide), flush_in u 3 (by decide),
    flush_not u (by omega), Bool.and_false, if_true, if_false, Bool.false_eq_true, id]
  rfl
theorem part_mid (u : Fin grid0.N) (h : u.val ≠ 0) (h' : u.val ≠ 15) (k : LP F PUnit) : part u k = waitIn 3 u (callBody u k) := by
  obtain ⟨h0, h1, h2⟩ := fetch_high u h
  unfold part
  simp only [each5, h0, h1, h2, fetch0_3 u, fetch_out u, flush_in u 0 (by decide), flush_in u 1 (by decide), flush_in u 2 (by decide), flush_in u 3 (by decide),
    flush_not u h', Bool.and_false, if_true, if_false, Bool.false_eq_true, id]
  rfl
theorem part_last (u : Fin grid0.N) (h : u.val = 15) (k : LP F PUnit) :
    part u k = waitIn 3 u (callBody u (startOut 4 u (waitOut 4 u k))) := by
  obtain ⟨h0, h1, h2⟩ := fetch_high u (by omega)
  unfold part
  simp only [each5, h0, h1, h2, fetch0_3 u, fetch_out u, flush_in u 0 (by decide), flush_in u 1 (by decide), flush_in u 2 (by decide), flush_in u 3 (by decide),
    flush_last u h, single_4, Bool.and_false, Bool.and_true, if_true, if_false, Bool.false_eq_true, id]
  rfl

theorem each5_of {p : Fin 5 → Bool} (f : Fin 5 → LP F PUnit → LP F PUnit) (k : LP F PUnit) {b0 b1 b2 b3 b4 : Bool}
    (h0 : p 0 = b0) (h1 : p 1 = b1) (h2 : p 2 = b2) (h3 : p 3 = b3) (h4 : p 4 = b4) :
    cfg0.eachWin p f k
      = (if b0 then f 0 else id) ((if b1 then f 1 else id) ((if b2 then f 2 else id) ((if b3 then f 3 else id) ((if b4 then f 4 else id) k)))) := by
  subst h0 h1 h2 h3 h4
  exact each5 p f k

/-- The block that is started ahead of a point. -/
theorem ahead (u : Fin grid0.N) (k : LP F PUnit) :
    cfg0.eachWin (fun w => !(cfg0.win w).single && (cfg0.win w).fetch u) (fun w => cfg0.fetchIn w u) k = startIn 3 u k :=
  (each5_of _ k (b0 := false) (b1 := false) (b2 := false) (b3 := true) (b4 := false) rfl rfl rfl (fetch0_3 u) rfl).trans (fetchIn_eq u 3 k)
theorem behind (u : Fin grid0.N) (k : LP F PUnit) :
    cfg0.eachWin (fun w => !(cfg0.win w).single && (cfg0.win w).flush u) (fun w k => .op (cfg0.waitOut w u) fun _ => k) k = k :=
  (each5_of _ k (b0 := false) (b1 := false) (b2 := false) (b3 := false) (b4 := false) rfl rfl rfl (flush_in u 3 (by decide)) rfl).trans rfl
theorem alone (u : Fin grid0.N) (k : LP F PUnit) :
    cfg0.eachWin (fun w => (cfg0.win w).single && (cfg0.win w).fetch u) (fun w => cfg0.fetchIn w u) k
      = if u.val = 0 then startIn 0 u (startIn 1 u (startIn 2 u k)) else k := by
  by_cases h : u.val = 0
  · obtain ⟨h0, h1, h2⟩ := fetch_low u h
    rw [if_pos h]
    refine (each5_of _ k (b0 := true) (b1 := true) (b2 := true) (b3 := false) (b4 := false) h0 h1 h2 rfl rfl).trans ?_
    simp only [if_true, Bool.false_eq_true, if_false, id, fetchIn_eq]
  · obtain ⟨h0, h1, h2⟩ := fetch_high u h
    rw [if_neg h]
    exact (each5_of _ k (b0 := false) (b1 := false) (b2 := false) (b3 := false) (b4 := false) h0 h1 h2 rfl rfl).trans rfl

theorem at_point (u : Fin grid0.N) (ℓ d : ℕ) (h : u.val + d = ℓ) (f : Fin grid0.N → LP F PUnit → LP F PUnit) (k : LP F PUnit) : cfg0.atPoint ℓ d f k = f u k := by
  obtain rfl := h
  unfold Cfg.atPoint Cfg.point
  rw [dif_pos ⟨Nat.le_add_left _ _, by rw [Nat.add_sub_cancel]; exact u.isLt⟩]
  simp only [Nat.add_sub_cancel]
theorem at_none (ℓ d : ℕ) (h : ℓ < d ∨ 16 + d ≤ ℓ) (f : Fin grid0.N → LP F PUnit → LP F PUnit) (k : LP F PUnit) : cfg0.atPoint ℓ d f k = k := by
  have hN : grid0.N = 16 := N_0
  unfold Cfg.atPoint Cfg.point
  rw [dif_neg (fun ⟨h1, h2⟩ => by have h2' : ℓ - d < grid0.N := h2; omega)]

theorem trip : cfg0.tripCount = 18 := by decide
theorem iter_unfold (ℓ : ℕ) : iter (F := F) ℓ
    = cfg0.atPoint ℓ 1 (fun u => cfg0.eachWin (fun w => (cfg0.win w).single && (cfg0.win w).fetch u) (fun w => cfg0.fetchIn w u)) (
      cfg0.atPoint ℓ 0 (fun u => cfg0.eachWin (fun w => !(cfg0.win w).single && (cfg0.win w).fetch u) (fun w => cfg0.fetchIn w u)) (
      cfg0.atPoint ℓ 1 part (
      cfg0.atPoint ℓ 2 (fun u => cfg0.eachWin (fun w => !(cfg0.win w).single && (cfg0.win w).flush u) (fun w k => .op (cfg0.waitOut w u) fun _ => k)) (
      if ℓ + 1 < cfg0.tripCount then next (ℓ + 1) else .ret ⟨⟩)))) := by
  have h : cfg0.prologue = 1 := by decide
  unfold iter Cfg.iter
  rw [h]
  rfl

theorem at_behind (ℓ : ℕ) (k : LP F PUnit) :
    cfg0.atPoint ℓ 2 (fun u => cfg0.eachWin (fun w => !(cfg0.win w).single && (cfg0.win w).flush u) (fun w k => .op (cfg0.waitOut w u) fun _ => k)) k = k := by
  by_cases h : 2 ≤ ℓ ∧ ℓ - 2 < 16
  · rw [at_point ⟨ℓ - 2, by rw [N_0]; exact h.2⟩ ℓ 2 (Nat.sub_add_cancel h.1), behind]
  · rw [at_none _ _ (by omega)]

/-- The first iteration starts the first block of `w`. -/
theorem iter_zero : iter (F := F) 0 = startIn 3 t0_0 (next 1) := by
  rw [iter_unfold, at_none 0 1 (by omega), at_point t0_0 0 0 rfl, ahead, at_none 0 1 (by omega), at_behind, trip, if_pos (by omega)]
/-- The second the other inputs and the second block, and does the first point. -/
theorem iter_one : iter (F := F) 1 = startIn 0 t0_0 (startIn 1 t0_0 (startIn 2 t0_0 (startIn 3 t0_1
    (waitIn 0 t0_0 (waitIn 1 t0_0 (waitIn 2 t0_0 (waitIn 3 t0_0 (callBody t0_0 (next 2))))))))) := by
  rw [iter_unfold, at_point t0_0 1 1 rfl, alone, if_pos (show t0_0.val = 0 from rfl), at_point t0_1 1 0 rfl, ahead, at_point t0_0 1 1 rfl, part_first _ rfl, at_behind, trip, if_pos (by omega)]
/-- A later one starts the next block and does a point. -/
theorem iter_mid (u v : Fin grid0.N) (h0 : u.val ≠ 0) (hv : v.val = u.val + 1) :
    iter (F := F) (u.val + 1) = startIn 3 v (waitIn 3 u (callBody u (next (u.val + 2)))) := by
  have h := v.isLt
  have hN : grid0.N = 16 := N_0
  rw [iter_unfold, at_point u (u.val + 1) 1 rfl, alone, if_neg h0, at_point v (u.val + 1) 0 hv, ahead, at_point u (u.val + 1) 1 rfl,
    part_mid _ h0 (by omega), at_behind, trip, if_pos (by omega)]
/-- The one before the last does the last point and writes the result back. -/
theorem iter_16 : iter (F := F) 16 = waitIn 3 t0_15 (callBody t0_15 (startOut 4 t0_15 (waitOut 4 t0_15 (next 17)))) := by
  rw [iter_unfold, at_point t0_15 16 1 rfl, alone, if_neg (by decide), at_none 16 0 (by omega), at_point t0_15 16 1 rfl, part_last _ rfl, at_behind, trip, if_pos (by omega)]
theorem iter_17 : iter (F := F) 17 = .ret ⟨⟩ := by
  rw [iter_unfold, at_none 17 1 (by omega), at_none 17 0 (by omega), at_none 17 1 (by omega), at_behind, trip, if_neg (by omega)]

end Cert.Exchange
-- ==== Proof.Fetch.lean ====
/-
  The pipeline's own transfers: what a window's staging buffer holds once its block has been fetched.
-/
module

public import proofs.«01_k».proof.Proof.Iter
public import Idealize.ShloMosaic.Lib.Transfers

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg)
open Idealize.ShloMosaic.ValueIdx

variable {F : FTy → Type} [FloatOps F]

local notation "𝕄" => MT nD τ sig Unit (Elt F) ℕ UU ℕ

/-! ## Points and slots -/

theorem pt_val : ∀ t : Fin grid0.N, (pt (grid0.coords t)).val = t.val := by decide +kernel
theorem slot_val : ∀ t : Fin cfg0.N, (cfg0.slots t 3).val = t.val % 2 := by
  intro t
  rcases fin_N0 t with h | h | h | h | h | h | h | h | h | h | h | h | h | h | h | h <;> subst h <;> decide +kernel
theorem index_3 : ∀ t : Fin cfg0.N, (cfg0.win 3).index t 0 = 0 ∧ (cfg0.win 3).index t 1 = t.val := by decide +kernel

/-- The body the pipeline calls at a point is the one reasoned about. -/
theorem body_at (t : Fin cfg0.N) :
    bodyAt0 (F := F) t = bodyOf (grid0.coords t) (win0_3.stage (cfg0.slots t 3)) (hstage0_3 ((cfg0.slots t 3).cast nbuf0_3)) := by
  have h : ∀ s0 s1 s2 s4 : Fin 1, (cc0_body (F := F) (grid0.coords t) (stage0_0 s0) (hstage0_0 s0) (stage0_1 s1) (hstage0_1 s1) (stage0_2 s2) (hstage0_2 s2)
      (win0_3.stage (cfg0.slots t 3)) (hstage0_3 ((cfg0.slots t 3).cast nbuf0_3)) (stage0_4 s4) (hstage0_4 s4)
      (Memref.whole cc0_scratch0) (Memref.isWhole_whole _) (Memref.whole cc0_scratch1) (Memref.isWhole_whole _) cc0_scratch2 cc0_scratch3)
        = bodyOf (grid0.coords t) (win0_3.stage (cfg0.slots t 3)) (hstage0_3 ((cfg0.slots t 3).cast nbuf0_3)) := by
    intro s0 s1 s2 s4
    obtain rfl := Subsingleton.elim s0 0
    obtain rfl := Subsingleton.elim s1 0
    obtain rfl := Subsingleton.elim s2 0
    obtain rfl := Subsingleton.elim s4 0
    rfl
  exact h (cfg0.slots t 0) (cfg0.slots t 1) (cfg0.slots t 2) (cfg0.slots t 4)

/-! ## A transfer of the device's own -/

section Own

variable (c : Dev nD) {sp sp' : Space} {sh : Shape} {e : EltTy}

/-- A transfer under way on the cell of `sem`. -/
def Coming (src : Memref sig .tc sp sh e) (dst : Memref sig .tc sp' sh e) (sem : DmaSem sig) (q : PosShare TreeShare)
    (A : Buf (Elt F) (src.view.loc (c : Thread nD τ))) (fd : Buf (Elt F) (dst.view.loc (c : Thread nD τ))) : sProp 𝕄 :=
  Transfers.Flight (countersEmb (U := UU)) (c : Thread nD τ) (.dma sem) () dst.view.dmaCredit
    iprop((dst.view.loc (c : Thread nD τ) ↦{fullShare} dst.view.write (Elt F) fd (src.view.read (Elt F) A) Finset.univ)
      ∗ (src.view.loc (c : Thread nD τ) ↦[src.view.set]{q} A))

abbrev wpl (c : Dev nD) (bd : Option (Option 𝒱₀.V ⊕ ℕ)) (p : LP F PUnit.{1}) (Q : PUnit.{1} → sProp 𝕄) : sProp 𝕄 :=
  wp frame (wpE (defs (F := F)) 𝒱₀.lift (c : Thread nD τ) bd) Set.univ p Q

variable (src : Memref sig .tc sp sh e) (dst : Memref sig .tc sp' sh e) (sem : DmaSem sig) (q : PosShare TreeShare)
    (A : Buf (Elt F) (src.view.loc (c : Thread nD τ))) (fd : Buf (Elt F) (dst.view.loc (c : Thread nD τ)))
    (bd : Option (Option 𝒱₀.V ⊕ ℕ)) (k : LP F PUnit.{1})

def startOp {h1 : src.view.WordExact} {h2 : dst.view.WordExact}
    {h3 : DmaTarget.Typed (nD := nD) (τ := τ) (p := .tc) sp (.dma sem) (.here dst)} : LP F PUnit.{1} :=
  .op (TpuEff.enqueueDma (nD := nD) (τ := τ) (p := .tc) src (.here dst) (.dma sem) h1 h2 h3) fun _ => k
def waitOp {h1 : src.view.WordExact} {h2 : dst.view.WordExact} : LP F PUnit.{1} :=
  .op (TpuEff.waitDma2 sem src dst h1 h2) fun _ => k

theorem copy_start (Q : PUnit.{1} → sProp 𝕄) (hp : 0 < sh.numel) (h1 : src.view.WordExact) (h2 : dst.view.WordExact)
    (h3 : DmaTarget.Typed (nD := nD) (τ := τ) (p := .tc) sp (.dma sem) (.here dst)) :
    iprop((src.view.loc (c : Thread nD τ) ↦[src.view.set]{q} A) ∗ (dst.view.loc (c : Thread nD τ) ↦{fullShare} fd) ∗ semVal ((c : Thread nD τ), .dma sem) 0)
      ⊢ iprop((Coming c src dst sem q A fd -∗ wpl c bd k Q) -∗ wpl c bd (startOp src dst sem k (h1 := h1) (h2 := h2) (h3 := h3)) Q) := by
  exact Transfers.wp_dmaLocal (countersEmb (U := UU)) (defs := defs (F := F)) 𝒱₀.lift (c : Thread nD τ) bd (src := src) (dst := dst)
    (via := .same) (sm := .dma sem) (k := fun _ => k) (q := q) (fs := A) (Sd := Finset.univ) (fd := fd) () dst.view.dmaCredit rfl (View.dmaCredit_pos _ hp) (Finset.subset_univ _)

theorem copy_wait (Q : PUnit.{1} → sProp 𝕄) (O : CellTallies nD τ sig Unit) (W : Waits sig Unit) (h1 : src.view.WordExact) (h2 : dst.view.WordExact) :
    iprop(Coming c src dst sem q A fd ∗ owes (c : Thread nD τ) O W ∗ MayWait (c : Thread nD τ) (.dma sem) () O)
      ⊢ iprop((((dst.view.loc (c : Thread nD τ) ↦{fullShare} dst.view.write (Elt F) fd (src.view.read (Elt F) A) Finset.univ)
            ∗ (src.view.loc (c : Thread nD τ) ↦[src.view.set]{q} A))
          ∗ semVal ((c : Thread nD τ), .dma sem) 0 ∗ owes (c : Thread nD τ) O (insert (SemLoc.dma sem, ()) W) -∗ wpl c bd k Q)
        -∗ wpl c bd (waitOp src dst sem k (h1 := h1) (h2 := h2)) Q) := by
  exact Transfers.wp_waitLocalO (countersEmb (U := UU)) (defs := defs (F := F)) 𝒱₀.lift (c : Thread nD τ) bd (srcw := src) (dstw := dst) (sem := sem)
    (k := fun _ => k) () rfl

/-- A transfer under way, and the rest of its source's buffer. -/
def Inbound (src : Memref sig .tc sp sh e) (dst : Memref sig .tc sp' sh e) (sem : DmaSem sig) (q : PosShare TreeShare)
    (A : Buf (Elt F) (src.view.loc (c : Thread nD τ))) (fd : Buf (Elt F) (dst.view.loc (c : Thread nD τ))) : sProp 𝕄 :=
  iprop(Coming c src dst sem q A fd ∗ (src.view.loc (c : Thread nD τ) ↦[Finset.univ \ src.view.set]{q} A))

theorem full_start (Q : PUnit.{1} → sProp 𝕄) (hp : 0 < sh.numel) (h1 : src.view.WordExact) (h2 : dst.view.WordExact)
    (h3 : DmaTarget.Typed (nD := nD) (τ := τ) (p := .tc) sp (.dma sem) (.here dst)) :
    iprop((src.view.loc (c : Thread nD τ) ↦{q} A) ∗ (dst.view.loc (c : Thread nD τ) ↦{fullShare} fd) ∗ semVal ((c : Thread nD τ), .dma sem) 0
        ∗ (Inbound c src dst sem q A fd -∗ wpl c bd k Q))
      ⊢ wpl c bd (startOp src dst sem k (h1 := h1) (h2 := h2) (h3 := h3)) Q := by
  have hsp : (src.view.loc (c : Thread nD τ) ↦{q} A : sProp 𝕄)
      ⊢ iprop((src.view.loc (c : Thread nD τ) ↦[src.view.set]{q} A) ∗ (src.view.loc (c : Thread nD τ) ↦[Finset.univ \ src.view.set]{q} A)) :=
    (pointsTo_split_subset (Finset.subset_univ _)).1
  iintro ⟨Ha, Hs, Hv, Hk⟩
  ihave Ha' := hsp $$ Ha
  icases Ha' with ⟨Ha, Hr⟩
  iapply (copy_start c src dst sem q A fd bd k Q hp h1 h2 h3) $$ [Ha Hs Hv]
  · isplitl [Ha]; · iexact Ha
    isplitl [Hs]; · iexact Hs
    iexact Hv
  iintro Hc
  iapply Hk
  unfold Inbound
  isplitl [Hc]; · iexact Hc
  iexact Hr

theorem full_wait (Q : PUnit.{1} → sProp 𝕄) (O : CellTallies nD τ sig Unit) (W : Waits sig Unit) (h1 : src.view.WordExact) (h2 : dst.view.WordExact) :
    iprop(Inbound c src dst sem q A fd ∗ owes (c : Thread nD τ) O W ∗ MayWait (c : Thread nD τ) (.dma sem) () O
        ∗ ((src.view.loc (c : Thread nD τ) ↦{q} A)
            ∗ (dst.view.loc (c : Thread nD τ) ↦{fullShare} dst.view.write (Elt F) fd (src.view.read (Elt F) A) Finset.univ)
            ∗ semVal ((c : Thread nD τ), .dma sem) 0 ∗ (∃ W', owes (c : Thread nD τ) O W')
          -∗ wpl c bd k Q))
      ⊢ wpl c bd (waitOp src dst sem k (h1 := h1) (h2 := h2)) Q := by
  have hsp : iprop((src.view.loc (c : Thread nD τ) ↦[src.view.set]{q} A) ∗ (src.view.loc (c : Thread nD τ) ↦[Finset.univ \ src.view.set]{q} A))
      ⊢ (src.view.loc (c : Thread nD τ) ↦{q} A : sProp 𝕄) :=
    (pointsTo_split_subset (Finset.subset_univ _)).2
  unfold Inbound
  iintro ⟨⟨Hc, Hr⟩, HO, Hmw, Hk⟩
  iapply (copy_wait c src dst sem q A fd bd k Q O W h1 h2) $$ [Hc HO Hmw]
  · isplitl [Hc]; · iexact Hc
    isplitl [HO]; · iexact HO
    iexact Hmw
  iintro ⟨⟨Hs, Ha⟩, Hv, HO⟩
  iapply Hk
  isplitl [Ha Hr]
  · iapply hsp
    isplitl [Ha]; · iexact Ha
    iexact Hr
  isplitl [Hs]; · iexact Hs
  isplitl [Hv]; · iexact Hv
  iexists _
  iexact HO

end Own

/-! ## A window's block on its way in -/

section In

variable (c : Dev nD)

/-- Contents of a window's array, and of its staging buffer at a point. -/
abbrev ArrB (F : FTy → Type) (c : Dev nD) (w : Fin 5) (t : Fin cfg0.N) := Buf (Elt F) (((cfg0.win w).blk t).view.loc (c : Thread nD τ))
abbrev StgB (F : FTy → Type) (c : Dev nD) (w : Fin 5) (t : Fin cfg0.N) :=
  Buf (Elt F) (((cfg0.win w).stg t (cfg0.slots t w)).view.loc (c : Thread nD τ))
abbrev wsem (w : Fin 5) (t : Fin cfg0.N) : DmaSem sig := (cfg0.win w).sem (cfg0.slots t w)
abbrev arrPts (w : Fin 5) (t : Fin cfg0.N) (q : PosShare TreeShare) (A : ArrB F c w t) : sProp 𝕄 :=
  ((cfg0.win w).blk t).view.loc (c : Thread nD τ) ↦{q} A
abbrev stgPts (w : Fin 5) (t : Fin cfg0.N) (f : StgB F c w t) : sProp 𝕄 :=
  ((cfg0.win w).stg t (cfg0.slots t w)).view.loc (c : Thread nD τ) ↦{fullShare} f

/-- The staging buffer once its block has come. -/
def fetched (w : Fin 5) (t : Fin cfg0.N) (A : ArrB F c w t) (fd : StgB F c w t) : StgB F c w t :=
  ((cfg0.win w).stg t (cfg0.slots t w)).view.write (Elt F) fd (((cfg0.win w).blk t).view.read (Elt F) A) Finset.univ

/-- The block on its way. -/
abbrev InW (w : Fin 5) (t : Fin cfg0.N) (q : PosShare TreeShare) (A : ArrB F c w t) (fd : StgB F c w t) : sProp 𝕄 :=
  Inbound c ((cfg0.win w).blk t) ((cfg0.win w).stg t (cfg0.slots t w)) (wsem w t) q A fd

theorem block_pos (w : Fin 5) (t : Fin cfg0.N) : 0 < ((cfg0.win w).xblock (cfg0.grid.coords t)).numel := by
  rcases w with ⟨_ | _ | _ | _ | _ | _, hw⟩
  · exact block_pos0 0
  · exact block_pos0 1
  · exact block_pos0 2
  · exact block_pos0 3
  · exact block_pos0 4
  · omega

theorem in_start (w : Fin 5) (t : Fin cfg0.N) (q : PosShare TreeShare) (A : ArrB F c w t) (fd : StgB F c w t)
    (bd : Option (Option 𝒱₀.V ⊕ ℕ)) (k : LP F PUnit.{1}) (Q : PUnit.{1} → sProp 𝕄) :
    iprop(arrPts c w t q A ∗ stgPts c w t fd ∗ semVal ((c : Thread nD τ), .dma (wsem w t)) 0 ∗ (InW c w t q A fd -∗ wpl c bd k Q))
      ⊢ wpl c bd (startIn w t k) Q :=
  full_start c ((cfg0.win w).blk t) ((cfg0.win w).stg t (cfg0.slots t w)) (wsem w t) q A fd bd k Q (block_pos w t)
    ((cfg0.win w).wordExact_blk t) ((cfg0.win w).wordExact_stg t _) ⟨Or.inl rfl, trivial⟩

theorem in_wait (w : Fin 5) (t : Fin cfg0.N) (q : PosShare TreeShare) (A : ArrB F c w t) (fd : StgB F c w t)
    (O : CellTallies nD τ sig Unit) (W : Waits sig Unit)
    (bd : Option (Option 𝒱₀.V ⊕ ℕ)) (k : LP F PUnit.{1}) (Q : PUnit.{1} → sProp 𝕄) :
    iprop(InW c w t q A fd ∗ owes (c : Thread nD τ) O W ∗ MayWait (c : Thread nD τ) (.dma (wsem w t)) () O
        ∗ (arrPts c w t q A ∗ stgPts c w t (fetched c w t A fd) ∗ semVal ((c : Thread nD τ), .dma (wsem w t)) 0 ∗ (∃ W', owes (c : Thread nD τ) O W')
          -∗ wpl c bd k Q))
      ⊢ wpl c bd (waitIn w t k) Q :=
  full_wait c ((cfg0.win w).blk t) ((cfg0.win w).stg t (cfg0.slots t w)) (wsem w t) q A fd bd k Q O W
    ((cfg0.win w).wordExact_blk t) ((cfg0.win w).wordExact_stg t _)

/-! The result's way out. -/

theorem out_start (t : Fin cfg0.N) (A : StgB F c 4 t) (fd : ArrB F c 4 t)
    (bd : Option (Option 𝒱₀.V ⊕ ℕ)) (k : LP F PUnit.{1}) (Q : PUnit.{1} → sProp 𝕄) :
    iprop(stgPts c 4 t A ∗ arrPts c 4 t fullShare fd ∗ semVal ((c : Thread nD τ), .dma (wsem 4 t)) 0
        ∗ (Inbound c ((cfg0.win 4).stg t (cfg0.slots t 4)) ((cfg0.win 4).blk t) (wsem 4 t) fullShare A fd -∗ wpl c bd k Q))
      ⊢ wpl c bd (startOut 4 t k) Q :=
  full_start c ((cfg0.win 4).stg t (cfg0.slots t 4)) ((cfg0.win 4).blk t) (wsem 4 t) fullShare A fd bd k Q (block_pos 4 t)
    ((cfg0.win 4).wordExact_stg t _) ((cfg0.win 4).wordExact_blk t) ⟨Or.inl rfl, trivial⟩

theorem out_wait (t : Fin cfg0.N) (A : StgB F c 4 t) (fd : ArrB F c 4 t)
    (O : CellTallies nD τ sig Unit) (W : Waits sig Unit)
    (bd : Option (Option 𝒱₀.V ⊕ ℕ)) (k : LP F PUnit.{1}) (Q : PUnit.{1} → sProp 𝕄) :
    iprop(Inbound c ((cfg0.win 4).stg t (cfg0.slots t 4)) ((cfg0.win 4).blk t) (wsem 4 t) fullShare A fd ∗ owes (c : Thread nD τ) O W
        ∗ MayWait (c : Thread nD τ) (.dma (wsem 4 t)) () O
        ∗ (stgPts c 4 t A
            ∗ arrPts c 4 t fullShare (((cfg0.win 4).blk t).view.write (Elt F) fd (((cfg0.win 4).stg t (cfg0.slots t 4)).view.read (Elt F) A) Finset.univ)
            ∗ semVal ((c : Thread nD τ), .dma (wsem 4 t)) 0 ∗ (∃ W', owes (c : Thread nD τ) O W')
          -∗ wpl c bd k Q))
      ⊢ wpl c bd (waitOut 4 t k) Q :=
  full_wait c ((cfg0.win 4).stg t (cfg0.slots t 4)) ((cfg0.win 4).blk t) (wsem 4 t) fullShare A fd bd k Q O W
    ((cfg0.win 4).wordExact_stg t _) ((cfg0.win 4).wordExact_blk t)

theorem stored_4 (A fd : Vec F S4096x1024 .f32) :
    ((cfg0.win 4).blk t0_15).view.write (Elt F) fd (((cfg0.win 4).stg t0_15 (cfg0.slots t0_15 4)).view.read (Elt F) A) Finset.univ = A := by
  refine funext fun (x : S4096x1024.Idx) => ?_
  have h1 : ((cfg0.win 4).blk t0_15).view.emb x = x := by
    funext a; refine Fin.ext ?_
    match a with
    | 0 => show 0 * 4096 + 1 * (x 0).val = (x 0).val; omega
    | 1 => show 0 * 1024 + 1 * (x 1).val = (x 1).val; omega
  have h2 : ((cfg0.win 4).stg t0_15 (cfg0.slots t0_15 4)).view.emb x = x := by
    funext a; refine Fin.ext ?_; show 0 + 1 * (x a).val = (x a).val; omega
  have h := View.write_emb_of_mem (v := ((cfg0.win 4).blk t0_15).view) (Val := Elt F) fd
    (((cfg0.win 4).stg t0_15 (cfg0.slots t0_15 4)).view.read (Elt F) A) (Finset.mem_univ x)
  rw [h1] at h
  refine h.trans ?_
  show A (((cfg0.win 4).stg t0_15 (cfg0.slots t0_15 4)).view.emb x) = _
  rw [h2]

/-! What comes is the device's argument, or its block of the weights. -/

variable (m : (ℓ : Loc nD τ sig) → Buf (Elt F) ℓ)

theorem fetched_0 (fd : StgB F c 0 t0_0) : fetched c 0 t0_0 (sxv m c) fd = sxv m c := by
  refine funext fun (x : S1.Idx) => ?_
  have h1 : ((cfg0.win 0).stg t0_0 (cfg0.slots t0_0 0)).view.emb x = x := by
    funext a; refine Fin.ext ?_; show 0 + 1 * (x a).val = (x a).val; omega
  have h2 : ((cfg0.win 0).blk t0_0).view.emb x = x := by
    funext a; refine Fin.ext ?_; match a with | 0 => show 0 * 1 + 1 * (x 0).val = (x 0).val; omega
  have h := View.write_emb_of_mem (v := ((cfg0.win 0).stg t0_0 (cfg0.slots t0_0 0)).view) (Val := Elt F) fd
    (((cfg0.win 0).blk t0_0).view.read (Elt F) (sxv m c)) (Finset.mem_univ x)
  rw [h1] at h
  refine h.trans ?_
  show sxv m c (((cfg0.win 0).blk t0_0).view.emb x) = _
  rw [h2]

theorem fetched_1 (fd : StgB F c 1 t0_0) : fetched c 1 t0_0 (swv m c) fd = swv m c := by
  refine funext fun (x : S1.Idx) => ?_
  have h1 : ((cfg0.win 1).stg t0_0 (cfg0.slots t0_0 1)).view.emb x = x := by
    funext a; refine Fin.ext ?_; show 0 + 1 * (x a).val = (x a).val; omega
  have h2 : ((cfg0.win 1).blk t0_0).view.emb x = x := by
    funext a; refine Fin.ext ?_; match a with | 0 => show 0 * 1 + 1 * (x 0).val = (x 0).val; omega
  have h := View.write_emb_of_mem (v := ((cfg0.win 1).stg t0_0 (cfg0.slots t0_0 1)).view) (Val := Elt F) fd
    (((cfg0.win 1).blk t0_0).view.read (Elt F) (swv m c)) (Finset.mem_univ x)
  rw [h1] at h
  refine h.trans ?_
  show swv m c (((cfg0.win 1).blk t0_0).view.emb x) = _
  rw [h2]

theorem fetched_2 (fd : StgB F c 2 t0_0) : fetched c 2 t0_0 (xblk m c) fd = xblk m c := by
  refine funext fun (x : S512x4096.Idx) => ?_
  have h1 : ((cfg0.win 2).stg t0_0 (cfg0.slots t0_0 2)).view.emb x = x := by
    funext a; refine Fin.ext ?_; show 0 + 1 * (x a).val = (x a).val; omega
  have h2 : ((cfg0.win 2).blk t0_0).view.emb x = x := by
    funext a; refine Fin.ext ?_
    match a with
    | 0 => show 0 * 512 + 1 * (x 0).val = (x 0).val; omega
    | 1 => show 0 * 4096 + 1 * (x 1).val = (x 1).val; omega
  have h := View.write_emb_of_mem (v := ((cfg0.win 2).stg t0_0 (cfg0.slots t0_0 2)).view) (Val := Elt F) fd
    (((cfg0.win 2).blk t0_0).view.read (Elt F) (xblk m c)) (Finset.mem_univ x)
  rw [h1] at h
  refine h.trans ?_
  show xblk m c (((cfg0.win 2).blk t0_0).view.emb x) = _
  rw [h2]

/-- The weights, whole. -/
abbrev wv (c : Dev nD) : Buf (Elt F) ((c : Thread nD τ).loc main_arg1) := m ((c : Thread nD τ).loc main_arg1)

/-- Reading the staging buffer whole gives the block of the weights. -/
theorem fetched_3 (t : Fin cfg0.N) (fd : StgB F c 3 t) :
    (win0_3.stage (cfg0.slots t 3)).view.readAt (Elt F) (Rect.unit (s := S4096x512) ![0, 0] S4096x512.size inb_S4096x512_S4096x512_0_0).toLoadRect
      (fetched c 3 t (wv m c) fd) = wblk m c (pt (grid0.coords t)) := by
  refine funext fun (x : S4096x512.Idx) => ?_
  have h1 : (win0_3.stage (cfg0.slots t 3)).view.emb ((Rect.unit (s := S4096x512) ![0, 0] S4096x512.size inb_S4096x512_S4096x512_0_0).emb x)
      = ((cfg0.win 3).stg t (cfg0.slots t 3)).view.emb x := by
    refine congrArg (win0_3.stage (cfg0.slots t 3)).view.emb ?_
    funext a; refine Fin.ext ?_
    match a with
    | 0 => rfl
    | 1 => rfl
  have h2 : ((cfg0.win 3).blk t).view.emb x = ix2 (x 0) (⟨512 * (pt (grid0.coords t)).val + (x 1).val, by
      have h1 := (pt (grid0.coords t)).isLt; have h2 := idx2_lt1 x; omega⟩ : Fin 8192) := by
    obtain ⟨e0, e1⟩ := index_3 t
    have e2 := pt_val t
    funext a; refine Fin.ext ?_
    match a with
    | 0 => show (cfg0.win 3).index t 0 * 4096 + 1 * (x 0).val = (x 0).val; rw [e0]; omega
    | 1 => show (cfg0.win 3).index t 1 * 512 + 1 * (x 1).val = 512 * (pt (grid0.coords t)).val + (x 1).val; rw [e1, e2]; omega
  have h := View.write_emb_of_mem (v := ((cfg0.win 3).stg t (cfg0.slots t 3)).view) (Val := Elt F) fd
    (((cfg0.win 3).blk t).view.read (Elt F) (wv m c)) (Finset.mem_univ x)
  refine (congrArg (fun y => _root_.cast (congrArg (Elt F) (win0_3.stage (cfg0.slots t 3)).view.elt_eq) (fetched c 3 t (wv m c) fd y)) h1).trans ?_
  refine (congrArg (_root_.cast (congrArg (Elt F) (win0_3.stage (cfg0.slots t 3)).view.elt_eq)) h).trans ?_
  refine (cast_cast _ _ _).trans ?_
  refine (cast_eq _ _).trans ?_
  show wv m c (((cfg0.win 3).blk t).view.emb x) = _
  rw [h2]
  rfl

end In

end Cert.Exchange
-- ==== Proof.Loop.lean ====
/-
  The pipeline's loop on this kernel: what is held before each iteration, and one iteration after the other.
-/
module

public import proofs.«01_k».proof.Proof.Fetch

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Cfg)

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## Calls -/

/-- The bound of iteration `ℓ`. -/
abbrev lev (ℓ : ℕ) : Option (Option 𝒱₀.V ⊕ ℕ) := some (.inr (18 - ℓ))

theorem lev_body (ℓ : ℕ) : ∀ v ∈ (lev ℓ), 𝒱₀.lift.lt (Sum.inl none) v := by
  intro v hv; cases hv; exact Sum.Lex.sep _ _
theorem lev_next (ℓ : ℕ) (h : ℓ < 18) : ∀ v ∈ (lev ℓ), 𝒱₀.lift.lt (Sum.inr (18 - (ℓ + 1))) v := by
  intro v hv; cases hv; exact Sum.Lex.inr (show 18 - (ℓ + 1) < 18 - ℓ by omega)

theorem ret_run (bd : Option (Option 𝒱₀.V ⊕ ℕ)) (Q : PUnit.{1} → sProp 𝕄) : Q ⟨⟩ ⊢ wpl c bd (.ret ⟨⟩) Q := by
  unfold wpl
  rw [wp_ret]
  exact fupd_intro

theorem next_run (ℓ : ℕ) (h : ℓ < 18) (Q : PUnit.{1} → sProp 𝕄) :
    wpl c (lev (ℓ + 1)) (iter (ℓ + 1)) Q ⊢ wpl c (lev ℓ) (next (ℓ + 1)) Q := by
  unfold next
  iintro H
  iapply (wp_call (defs := defs (F := F)) 𝒱₀.lift (c : Thread nD τ) (lev ℓ) Set.univ (Q := Q) (ℓ := Pipeline.pipe (0 : Fin 1)) (a := (adm 0, ℓ + 1))
    (k := fun _ => .ret ⟨⟩) (Sum.inr (18 - (ℓ + 1))) (lev_next ℓ h))
  iapply (wp_wand_r frame _ Set.univ)
  isplitl [H]; · iexact H
  iintro %x HQ
  rw [wp_ret]
  iapply fupd_intro
  iexact HQ

theorem call_body (t : Fin cfg0.N) (ℓ : ℕ) (k : LP F PUnit.{1}) (Q : PUnit.{1} → sProp 𝕄)
    (g : Buf (Elt F) ((win0_3.stage (cfg0.slots t 3)).view.loc (c : Thread nD τ)))
    (hg : (win0_3.stage (cfg0.slots t 3)).view.readAt (Elt F) (Rect.unit (s := S4096x512) ![0, 0] S4096x512.size inb_S4096x512_S4096x512_0_0).toLoadRect g
      = wblk m c (pt (grid0.coords t))) :
    iprop(recs m K ∗ (sxPts c (sxv m c) ∗ swPts c (swv m c) ∗ xPts c (xblk m c) ∗ ((win0_3.stage (cfg0.slots t 3)).view.loc (c : Thread nD τ) ↦{fullShare} g))
        ∗ xqAt m c t.val ∗ pre m c t.val
        ∗ ((sxPts c (sxv m c) ∗ swPts c (swv m c) ∗ xPts c (xblk m c) ∗ ((win0_3.stage (cfg0.slots t 3)).view.loc (c : Thread nD τ) ↦{fullShare} g))
          ∗ xqPts c (k0_pay1 (xblk m c)) ∗ post m c t.val -∗ wpl c (lev ℓ) k Q))
      ⊢ wpl c (lev ℓ) (callBody t k) Q := by
  have hb := body_run m K c (grid0.coords t) (win0_3.stage (cfg0.slots t 3)) (hstage0_3 ((cfg0.slots t 3).cast nbuf0_3)) g hg
    (fun _ => wpl c (lev ℓ) k Q)
  rw [← body_at, pt_val] at hb
  unfold callBody
  refine hb.trans ?_
  iintro H
  iapply (wp_call (defs := defs (F := F)) 𝒱₀.lift (c : Thread nD τ) (lev ℓ) Set.univ (Q := Q) (ℓ := Pipeline.kernel (0 : Λ₀.Label)) (a := (t, cfg0.slots t))
    (k := fun _ => k) (Sum.inl none) (lev_body ℓ))
  iapply (show wp frame (wpE (defs (F := F)) 𝒱₀.lift (c : Thread nD τ) (some (.inl none))) Set.univ (Pipeline.liftProg (bodyAt0 (F := F) t)) _
      ⊢ wp frame (wpE (defs (F := F)) 𝒱₀.lift (c : Thread nD τ) (some (.inl none))) Set.univ
        (defs (F := F) .tc (Pipeline.kernel (0 : Λ₀.Label)) (t, cfg0.slots t)) _ from .rfl)
  iapply (Pipeline.wp_liftProg (defs (F := F)) (fun pr ℓ x => Pipeline.defs_kernel pcfgs defs₀ pr ℓ x) 𝒱₀ (c : Thread nD τ) Set.univ none)
  iexact H

/-! ## The two buffers of the weights -/

/-- The share of the weights that goes with a buffer. -/
def half3 (σ : Fin 2) : PosShare TreeShare := if σ.val = 0 then fullShare.left else fullShare.right
abbrev wPts (c : Dev nD) (q : PosShare TreeShare) (f : Buf (Elt F) ((c : Thread nD τ).loc main_arg1)) : sProp 𝕄 := (c : Thread nD τ).loc main_arg1 ↦{q} f

theorem halves : (wPts c fullShare (wv m c) : sProp 𝕄) ⊣⊢ iprop(wPts c (half3 0) (wv m c) ∗ wPts c (half3 1) (wv m c)) := by
  have h0 : half3 0 = fullShare.left := rfl
  have h1 : half3 1 = fullShare.right := rfl
  rw [h0, h1]
  exact pointsTo_share (PosShare.mem_left_op_right fullShare)

/-- A buffer with nothing on its way into it. -/
def Free (σ : Fin 2) : sProp 𝕄 :=
  iprop((∃ f, (win0_3.stage σ).view.loc (c : Thread nD τ) ↦{fullShare} f) ∗ semVal ((c : Thread nD τ), .dma (win0_3.sem σ)) 0 ∗ wPts c (half3 σ) (wv m c))
/-- The block of point `t` on its way. -/
def Busy (t : Fin cfg0.N) : sProp 𝕄 := iprop(∃ fd, InW c 3 t (half3 (cfg0.slots t 3)) (wv m c) fd)

theorem w_start (t : Fin cfg0.N) (bd : Option (Option 𝒱₀.V ⊕ ℕ)) (k : LP F PUnit.{1}) (Q : PUnit.{1} → sProp 𝕄) :
    iprop(Free m c (cfg0.slots t 3) ∗ (Busy m c t -∗ wpl c bd k Q)) ⊢ wpl c bd (startIn 3 t k) Q := by
  unfold Free
  iintro ⟨⟨⟨%f, Hf⟩, Hv, Hw⟩, Hk⟩
  iapply (in_start c 3 t (half3 (cfg0.slots t 3)) (wv m c) f bd k Q)
  isplitl [Hw]; · iexact Hw
  isplitl [Hf]; · iexact Hf
  isplitl [Hv]; · iexact Hv
  iintro H
  iapply Hk
  unfold Busy
  iexists f
  iexact H

theorem w_wait (t : Fin cfg0.N) (O : CellTallies nD τ sig Unit) (bd : Option (Option 𝒱₀.V ⊕ ℕ)) (k : LP F PUnit.{1}) (Q : PUnit.{1} → sProp 𝕄) :
    iprop(Busy m c t ∗ (∃ W, owes (c : Thread nD τ) O W) ∗ MayWait (c : Thread nD τ) (.dma (wsem 3 t)) () O
        ∗ ((∃ g, ⌜(win0_3.stage (cfg0.slots t 3)).view.readAt (Elt F) (Rect.unit (s := S4096x512) ![0, 0] S4096x512.size inb_S4096x512_S4096x512_0_0).toLoadRect g
                = wblk m c (pt (grid0.coords t))⌝ ∗ ((win0_3.stage (cfg0.slots t 3)).view.loc (c : Thread nD τ) ↦{fullShare} g))
            ∗ (semVal ((c : Thread nD τ), .dma (win0_3.sem (cfg0.slots t 3))) 0 ∗ wPts c (half3 (cfg0.slots t 3)) (wv m c))
            ∗ (∃ W, owes (c : Thread nD τ) O W) -∗ wpl c bd k Q))
      ⊢ wpl c bd (waitIn 3 t k) Q := by
  unfold Busy
  iintro ⟨⟨%fd, Hb⟩, ⟨%W, HO⟩, Hmw, Hk⟩
  iapply (in_wait c 3 t (half3 (cfg0.slots t 3)) (wv m c) fd O W bd k Q)
  isplitl [Hb]; · iexact Hb
  isplitl [HO]; · iexact HO
  isplitl [Hmw]; · iexact Hmw
  iintro ⟨Hw, Hs, Hv, HO⟩
  iapply Hk
  isplitl [Hs]
  · iexists (fetched c 3 t (wv m c) fd)
    isplitr; · ipureintro; exact fetched_3 c m t fd
    iexact Hs
  isplitl [Hv Hw]
  · isplitl [Hv]; · iexact Hv
    iexact Hw
  iexact HO

theorem wsem_low : ∀ t : Fin cfg0.N, (wsem 3 t).val < 8 := by decide +kernel
theorem mayWait_w (t : Fin cfg0.N) (q : ℕ) (b : Bool) :
    (recs m K : sProp 𝕄) ⊢ MayWait (c : Thread nD τ) (.dma (wsem 3 t)) () ((if b then oBar 0 else 0) + oRecv c q) :=
  (levs_at m K).trans (mayWait_low c (wsem 3 t) (wsem_low t) q b)
theorem mayWait_w' (t : Fin cfg0.N) (q : ℕ) : (recs m K : sProp 𝕄) ⊢ MayWait (c : Thread nD τ) (.dma (wsem 3 t)) () (oRecv c q) := by
  have h := mayWait_w m K c t q false
  simpa only [Bool.false_eq_true, if_false, zero_add] using h

/-! ## A point after the first -/

/-- What every point after the first finds and leaves as it is. -/
def consts : sProp 𝕄 := iprop(sxPts c (sxv m c) ∗ swPts c (swv m c) ∗ xPts c (xblk m c) ∗ xqPts c (k0_pay1 (xblk m c)))

theorem point_run (t : Fin cfg0.N) (ℓ : ℕ) (h0 : t.val ≠ 0) (k : LP F PUnit.{1}) (Q : PUnit.{1} → sProp 𝕄) :
    iprop(recs m K ∗ consts m c ∗ mid m c t.val ∗ Busy m c t
        ∗ (consts m c ∗ post m c t.val ∗ Free m c (cfg0.slots t 3) -∗ wpl c (lev ℓ) k Q))
      ⊢ wpl c (lev ℓ) (waitIn 3 t (callBody t k)) Q := by
  have hpre : (mid m c t.val : sProp 𝕄) = pre m c t.val := by unfold pre; rw [if_neg h0]
  have hxq : (xqPts c (k0_pay1 (xblk m c)) : sProp 𝕄) = xqAt m c t.val := by unfold xqAt; rw [if_neg h0]
  unfold consts
  iintro ⟨#HR, ⟨Hsx, Hsw, Hx, Hxq⟩, Hmid, Hb, Hk⟩
  unfold mid exch owed
  icases Hmid with ⟨Hown, ⟨Hpe, HO, Hsl⟩, Hrcv, Hbar⟩
  iapply (w_wait m c t (oRecv c (t.val / 2)))
  isplitl [Hb]; · iexact Hb
  isplitl [HO]; · iexact HO
  isplitr; · iapply (mayWait_w' m K c t); iexact HR
  iintro ⟨⟨%g, %hg, Hg⟩, ⟨Hv, Hw⟩, HO⟩
  iapply (call_body m K c t ℓ k Q g hg)
  isplitr; · iexact HR
  isplitl [Hsx Hsw Hx Hg]
  · isplitl [Hsx]; · iexact Hsx
    isplitl [Hsw]; · iexact Hsw
    isplitl [Hx]; · iexact Hx
    iexact Hg
  isplitl [Hxq]; · iapply (Entails.of_eq hxq); iexact Hxq
  isplitl [Hown Hpe HO Hsl Hrcv Hbar]
  · iapply (Entails.of_eq hpre)
    unfold mid exch owed
    isplitl [Hown]; · iexact Hown
    isplitl [Hpe HO Hsl]
    · isplitl [Hpe]; · iexact Hpe
      isplitl [HO]; · iexact HO
      iexact Hsl
    isplitl [Hrcv]; · iexact Hrcv
    iexact Hbar
  iintro ⟨⟨Hsx, Hsw, Hx, Hg⟩, Hxq, Hpost⟩
  iapply Hk
  isplitl [Hsx Hsw Hx Hxq]
  · isplitl [Hsx]; · iexact Hsx
    isplitl [Hsw]; · iexact Hsw
    isplitl [Hx]; · iexact Hx
    iexact Hxq
  isplitl [Hpost]; · iexact Hpost
  unfold Free
  isplitl [Hg]; · iexists g; iexact Hg
  isplitl [Hv]; · iexact Hv
  iexact Hw

/-- The result's array and its cell. -/
def outside : sProp 𝕄 := iprop((∃ f, (c : Thread nD τ).loc main_v1 ↦{fullShare} f) ∗ semVal ((c : Thread nD τ), .dma (wsem 4 t0_15)) 0)

/-- What the loop leaves. -/
def finish : sProp 𝕄 :=
  iprop(consts m c ∗ done m c ∗ Free m c 0 ∗ Free m c 1
    ∗ ((c : Thread nD τ).loc main_v1 ↦{fullShare} outFinal m c) ∗ semVal ((c : Thread nD τ), .dma (wsem 4 t0_15)) 0)

theorem last_iter (Q : PUnit.{1} → sProp 𝕄) :
    iprop(recs m K ∗ consts m c ∗ mid m c 15 ∗ Busy m c t0_15 ∗ Free m c 0 ∗ outside c ∗ (finish m c -∗ Q ⟨⟩))
      ⊢ wpl c (lev 16) (iter 16) Q := by
  have hpost : (post m c t0_15.val : sProp 𝕄) = done m c := by unfold post; rw [if_pos (show t0_15.val = 15 from rfl)]
  rw [iter_16]
  iintro ⟨#HR, Hc, Hmid, Hb, Hf0, Hout, Hk⟩
  iapply (point_run m K c t0_15 16 (by decide))
  isplitr; · iexact HR
  isplitl [Hc]; · iexact Hc
  isplitl [Hmid]; · iexact Hmid
  isplitl [Hb]; · iexact Hb
  iintro ⟨Hc, Hpost, Hf1⟩
  ihave Hd := (Entails.of_eq hpost) $$ Hpost
  unfold done
  icases Hd with ⟨Ho, Hsb, HO, Hss, Hrs, Hbs⟩
  unfold outside
  icases Hout with ⟨⟨%f, Hout⟩, Hv⟩
  iapply (out_start c t0_15 (outFinal m c) f)
  isplitl [Ho]; · iexact Ho
  isplitl [Hout]; · iexact Hout
  isplitl [Hv]; · iexact Hv
  iintro Hb
  icases HO with ⟨%W, HO⟩
  iapply (out_wait c t0_15 (outFinal m c) f 0 W)
  isplitl [Hb]; · iexact Hb
  isplitl [HO]; · iexact HO
  isplitr; · rw [MayWait_zero]; iempintro
  iintro ⟨Ho, Hout, Hv, HO⟩
  iapply (next_run c 16 (by omega))
  rw [iter_17, stored_4]
  iapply (ret_run c (lev (16 + 1)))
  iapply Hk
  unfold finish done
  isplitl [Hc]; · iexact Hc
  isplitl [Ho Hsb HO Hss Hrs Hbs]
  · isplitl [Ho]; · iexact Ho
    isplitl [Hsb]; · iexact Hsb
    isplitl [HO]; · iexact HO
    isplitl [Hss]; · iexact Hss
    isplitl [Hrs]; · iexact Hrs
    iexact Hbs
  isplitl [Hf0]; · iexact Hf0
  isplitl [Hf1]; · iexact Hf1
  isplitl [Hout]; · iexact Hout
  iexact Hv

/-! ## The points between -/

/-- The buffer that the point after `u` uses. -/
def other (u : Fin cfg0.N) : Fin 2 := ⟨(u.val + 1) % 2, Nat.mod_lt _ (by omega)⟩
theorem slot_next (u v : Fin cfg0.N) (hv : v.val = u.val + 1) : (cfg0.slots v 3 : Fin 2) = other u :=
  Fin.ext (by rw [slot_val v, hv]; rfl)
theorem slot_prev (u v : Fin cfg0.N) (hv : v.val = u.val + 1) : (cfg0.slots u 3 : Fin 2) = other v :=
  Fin.ext (by rw [slot_val u]; show u.val % 2 = (v.val + 1) % 2; omega)

theorem mid_iter (u v : Fin cfg0.N) (h0 : u.val ≠ 0) (hv : v.val = u.val + 1) (Q : PUnit.{1} → sProp 𝕄) :
    iprop(recs m K ∗ consts m c ∗ mid m c u.val ∗ Busy m c u ∗ Free m c (other u)
        ∗ (consts m c ∗ mid m c v.val ∗ Busy m c v ∗ Free m c (other v) -∗ wpl c (lev (v.val + 1)) (iter (v.val + 1)) Q))
      ⊢ wpl c (lev (u.val + 1)) (iter (u.val + 1)) Q := by
  have hN : v.val < 16 := lt_of_lt_of_eq v.isLt N_0
  have hpost : (post m c u.val : sProp 𝕄) = mid m c v.val := by unfold post; rw [if_neg (by omega), hv]
  have e1 : (Free m c (cfg0.slots v 3) : sProp 𝕄) = Free m c (other u) := congrArg (Free m c) (slot_next u v hv)
  have e2 : (Free m c (cfg0.slots u 3) : sProp 𝕄) = Free m c (other v) := congrArg (Free m c) (slot_prev u v hv)
  have hl : v.val + 1 = u.val + 2 := by omega
  rw [iter_mid u v h0 hv, hl]
  iintro ⟨#HR, Hc, Hmid, Hb, Hf, Hk⟩
  iapply (w_start m c v)
  isplitl [Hf]; · iapply (Entails.of_eq e1.symm); iexact Hf
  iintro Hb'
  iapply (point_run m K c u (u.val + 1) h0)
  isplitr; · iexact HR
  isplitl [Hc]; · iexact Hc
  isplitl [Hmid]; · iexact Hmid
  isplitl [Hb]; · iexact Hb
  iintro ⟨Hc, Hpost, Hf⟩
  iapply (next_run c (u.val + 1) (by omega))
  iapply Hk
  isplitl [Hc]; · iexact Hc
  isplitl [Hpost]; · iapply (Entails.of_eq hpost); iexact Hpost
  isplitl [Hb']; · iexact Hb'
  iapply (Entails.of_eq e2); iexact Hf

theorem loop_run (Q : PUnit.{1} → sProp 𝕄) : ∀ (n : ℕ) (u : Fin cfg0.N), u.val ≠ 0 → u.val + n = 15 →
    iprop(recs m K ∗ consts m c ∗ mid m c u.val ∗ Busy m c u ∗ Free m c (other u) ∗ outside c ∗ (finish m c -∗ Q ⟨⟩))
      ⊢ wpl c (lev (u.val + 1)) (iter (u.val + 1)) Q
  | 0, u, h0, hn => by
    obtain rfl : u = t0_15 := Fin.ext hn
    exact last_iter m K c Q
  | n + 1, u, h0, hn => by
    have ih := loop_run Q n ⟨u.val + 1, lt_of_lt_of_eq (show u.val + 1 < 16 by omega) N_0.symm⟩ (by show u.val + 1 ≠ 0; omega) (by show u.val + 1 + n = 15; omega)
    iintro ⟨#HR, Hc, Hmid, Hb, Hf, Hout, Hk⟩
    iapply (mid_iter m K c u ⟨u.val + 1, lt_of_lt_of_eq (show u.val + 1 < 16 by omega) N_0.symm⟩ h0 rfl)
    isplitr; · iexact HR
    isplitl [Hc]; · iexact Hc
    isplitl [Hmid]; · iexact Hmid
    isplitl [Hb]; · iexact Hb
    isplitl [Hf]; · iexact Hf
    iintro ⟨Hc, Hmid, Hb, Hf⟩
    iapply ih
    isplitr; · iexact HR
    isplitl [Hc]; · iexact Hc
    isplitl [Hmid]; · iexact Hmid
    isplitl [Hb]; · iexact Hb
    isplitl [Hf]; · iexact Hf
    isplitl [Hout]; · iexact Hout
    iexact Hk

/-! ## The first two iterations -/

abbrev sxArr (f : Buf (Elt F) ((c : Thread nD τ).loc main_arg2)) : sProp 𝕄 := (c : Thread nD τ).loc main_arg2 ↦{fullShare} f
abbrev swArr (f : Buf (Elt F) ((c : Thread nD τ).loc main_arg3)) : sProp 𝕄 := (c : Thread nD τ).loc main_arg3 ↦{fullShare} f
abbrev xArr (f : Buf (Elt F) ((c : Thread nD τ).loc main_arg0)) : sProp 𝕄 := (c : Thread nD τ).loc main_arg0 ↦{fullShare} f
/-- The other inputs' arrays and cells. -/
def ins : sProp 𝕄 :=
  iprop((sxArr c (sxv m c) ∗ swArr c (swv m c) ∗ xArr c (xblk m c))
    ∗ (semVal ((c : Thread nD τ), .dma (wsem 0 t0_0)) 0 ∗ semVal ((c : Thread nD τ), .dma (wsem 1 t0_0)) 0 ∗ semVal ((c : Thread nD τ), .dma (wsem 2 t0_0)) 0))
/-- Their staging buffers. -/
def stages : sProp 𝕄 := iprop((∃ f, sxPts c f) ∗ (∃ f, swPts c f) ∗ (∃ f, xPts c f))

theorem mayWait_first (x : DmaSem sig) (hx : x.val < 8) :
    (recs m K : sProp 𝕄) ⊢ MayWait (c : Thread nD τ) (.dma x) () (oBar 0 + oRecv c 0) :=
  (levs_at m K).trans (mayWait_low c x hx 0 true)

theorem first_run (Q : PUnit.{1} → sProp 𝕄) :
    iprop(recs m K ∗ ins m c ∗ stages c ∗ (∃ f, xqPts c f) ∗ start m c ∗ (Free m c 0 ∗ Free m c 1) ∗ outside c ∗ (finish m c ∗ ins m c -∗ Q ⟨⟩))
      ⊢ wpl c (lev 0) (iter 0) Q := by
  have hxq : (iprop(∃ f, xqPts c f) : sProp 𝕄) = xqAt m c t0_0.val := by unfold xqAt; rw [if_pos (show t0_0.val = 0 from rfl)]
  have hpre : (start m c : sProp 𝕄) = pre m c t0_0.val := by unfold pre; rw [if_pos (show t0_0.val = 0 from rfl)]
  have hpost : (post m c t0_0.val : sProp 𝕄) = mid m c t0_1.val := by unfold post; rw [if_neg (by decide)]; rfl
  have e0 : (cfg0.slots t0_0 3 : Fin 2) = 0 := Fin.ext (slot_val t0_0)
  have e1 : (cfg0.slots t0_1 3 : Fin 2) = 1 := Fin.ext (slot_val t0_1)
  have f0 : (Free m c (cfg0.slots t0_0 3) : sProp 𝕄) = Free m c 0 := congrArg (Free m c) e0
  have f1 : (Free m c (cfg0.slots t0_1 3) : sProp 𝕄) = Free m c 1 := congrArg (Free m c) e1
  rw [iter_zero]
  unfold ins stages
  iintro ⟨#HR, ⟨⟨Asx, Asw, Ax⟩, Vsx, Vsw, Vx⟩, ⟨⟨%fsx, Ssx⟩, ⟨%fsw, Ssw⟩, ⟨%fx, Sx⟩⟩, Hxq, Hst, ⟨F0, F1⟩, Hout, Hk⟩
  iapply (w_start m c t0_0)
  isplitl [F0]; · iapply (Entails.of_eq f0.symm); iexact F0
  iintro B0
  iapply (next_run c 0 (by omega))
  rw [iter_one]
  iapply (in_start c 0 t0_0 fullShare (sxv m c) fsx)
  isplitl [Asx]; · iexact Asx
  isplitl [Ssx]; · iexact Ssx
  isplitl [Vsx]; · iexact Vsx
  iintro Isx
  iapply (in_start c 1 t0_0 fullShare (swv m c) fsw)
  isplitl [Asw]; · iexact Asw
  isplitl [Ssw]; · iexact Ssw
  isplitl [Vsw]; · iexact Vsw
  iintro Isw
  iapply (in_start c 2 t0_0 fullShare (xblk m c) fx)
  isplitl [Ax]; · iexact Ax
  isplitl [Sx]; · iexact Sx
  isplitl [Vx]; · iexact Vx
  iintro Ix
  iapply (w_start m c t0_1)
  isplitl [F1]; · iapply (Entails.of_eq f1.symm); iexact F1
  iintro B1
  unfold start
  icases Hst with ⟨Hhs, Hrt, Hbc, ⟨%W0, HO⟩, Hsl, Hrcv⟩
  iapply (in_wait c 0 t0_0 fullShare (sxv m c) fsx (oBar 0 + oRecv c 0) W0)
  isplitl [Isx]; · iexact Isx
  isplitl [HO]; · iexact HO
  isplitr; · iapply (mayWait_first m K c (wsem 0 t0_0) (by decide)); iexact HR
  iintro ⟨Asx, Ssx, Vsx, ⟨%W1, HO⟩⟩
  iapply (in_wait c 1 t0_0 fullShare (swv m c) fsw (oBar 0 + oRecv c 0) W1)
  isplitl [Isw]; · iexact Isw
  isplitl [HO]; · iexact HO
  isplitr; · iapply (mayWait_first m K c (wsem 1 t0_0) (by decide)); iexact HR
  iintro ⟨Asw, Ssw, Vsw, ⟨%W2, HO⟩⟩
  iapply (in_wait c 2 t0_0 fullShare (xblk m c) fx (oBar 0 + oRecv c 0) W2)
  isplitl [Ix]; · iexact Ix
  isplitl [HO]; · iexact HO
  isplitr; · iapply (mayWait_first m K c (wsem 2 t0_0) (by decide)); iexact HR
  iintro ⟨Ax, Sx, Vx, HO⟩
  iapply (w_wait m c t0_0 (oBar 0 + oRecv c 0))
  isplitl [B0]; · iexact B0
  isplitl [HO]; · iexact HO
  isplitr; · iapply (mayWait_first m K c (wsem 3 t0_0) (wsem_low t0_0)); iexact HR
  iintro ⟨⟨%g, %hg, Hg⟩, ⟨Vw, Aw⟩, HO⟩
  iapply (call_body m K c t0_0 1 (next 2) Q g hg)
  isplitr; · iexact HR
  isplitl [Ssx Ssw Sx Hg]
  · isplitl [Ssx]; · iapply (Entails.of_eq (congrArg (sxPts c) (fetched_0 c m fsx))); iexact Ssx
    isplitl [Ssw]; · iapply (Entails.of_eq (congrArg (swPts c) (fetched_1 c m fsw))); iexact Ssw
    isplitl [Sx]; · iapply (Entails.of_eq (congrArg (xPts c) (fetched_2 c m fx))); iexact Sx
    iexact Hg
  isplitl [Hxq]; · iapply (Entails.of_eq hxq); iexact Hxq
  isplitl [Hhs Hrt Hbc HO Hsl Hrcv]
  · iapply (Entails.of_eq hpre)
    unfold start
    isplitl [Hhs]; · iexact Hhs
    isplitl [Hrt]; · iexact Hrt
    isplitl [Hbc]; · iexact Hbc
    isplitl [HO]; · iexact HO
    isplitl [Hsl]; · iexact Hsl
    iexact Hrcv
  iintro ⟨⟨Ssx, Ssw, Sx, Hg⟩, Hxq, Hpost⟩
  iapply (next_run c 1 (by omega))
  iapply (loop_run m K c Q 14 t0_1 (by decide) rfl)
  isplitr; · iexact HR
  isplitl [Ssx Ssw Sx Hxq]
  · unfold consts
    isplitl [Ssx]; · iexact Ssx
    isplitl [Ssw]; · iexact Ssw
    isplitl [Sx]; · iexact Sx
    iexact Hxq
  isplitl [Hpost]; · iapply (Entails.of_eq hpost); iexact Hpost
  isplitl [B1]; · iexact B1
  isplitl [Hg Vw Aw]
  · iapply (Entails.of_eq (congrArg (Free m c) (slot_prev t0_0 t0_1 rfl)))
    unfold Free
    isplitl [Hg]; · iexists g; iexact Hg
    isplitl [Vw]; · iexact Vw
    iexact Aw
  isplitl [Hout]; · iexact Hout
  iintro Hfin
  iapply Hk
  isplitl [Hfin]; · iexact Hfin
  isplitl [Asx Asw Ax]
  · isplitl [Asx]; · iexact Asx
    isplitl [Asw]; · iexact Asw
    iexact Ax
  isplitl [Vsx]; · iexact Vsx
  isplitl [Vsw]; · iexact Vsw
  iexact Vx

end Cert.Exchange
-- ==== Proof.Enter.lean ====
/-
  Entering the kernel: its buffers and semaphores taken apart, its cells put into use, and put together again at the exit.
-/
module

public import proofs.«01_k».proof.Proof.Loop

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Cfg)

variable {F : FTy → Type} [FloatOps F]

local notation "𝕄" => MT nD τ sig Unit (Elt F) ℕ UU ℕ

variable (m : (ℓ : Loc nD τ sig) → Buf (Elt F) ℓ) (K : GSem nD τ sig → ℕ) (c : Dev nD)

theorem sep_in {I : Type} [Fintype I] {Φ Ψ : I → sProp 𝕄} :
    iprop(bigSep Finset.univ Φ ∗ bigSep Finset.univ Ψ) ⊢ bigSep Finset.univ fun i => iprop(Φ i ∗ Ψ i) := Entails.of_eq (bigSep_sep _ _ _).symm
theorem sep_out {I : Type} [Fintype I] {Φ Ψ : I → sProp 𝕄} :
    (bigSep Finset.univ fun i => iprop(Φ i ∗ Ψ i)) ⊢ iprop(bigSep Finset.univ Φ ∗ bigSep Finset.univ Ψ) := Entails.of_eq (bigSep_sep _ _ _)

/-! ## The region's buffers and semaphores -/

/-- Every buffer of the region, at contents not chosen. -/
def roomB : sProp 𝕄 :=
  iprop((∃ f, sxPts c f) ∗ (∃ f, swPts c f) ∗ (∃ f, xPts c f)
    ∗ (∃ f, (win0_3.stage 0).view.loc (c : Thread nD τ) ↦{fullShare} f) ∗ (∃ f, (win0_3.stage 1).view.loc (c : Thread nD τ) ↦{fullShare} f)
    ∗ (∃ f, outPts c f) ∗ (∃ f, xqPts c f) ∗ (∃ f, sbPts c f))

theorem bufs_room : (scopedBufs (c : Thread nD τ) : sProp 𝕄) = roomB c := by
  rw [scopedBufs_tc, bigSep_eq_bigSepL_of_eq [cc0_stg0_0, cc0_stg1_0, cc0_stg2_0, cc0_stg3_0, cc0_stg3_1, cc0_stg4_0, cc0_scratch0, cc0_scratch1] (by decide) (by decide)]
  rfl

abbrev semZ (x : DmaSem sig) : sProp 𝕄 := semVal ((c : Thread nD τ), .dma x) 0
/-- The receive cells' counters. -/
def recvZ : sProp 𝕄 := bigSep Finset.univ fun s : Dev nD => semVal (recvCell c s) 0

/-- Every semaphore of the region, at zero. -/
def roomS : sProp 𝕄 :=
  iprop((semZ c (wsem 0 t0_0) ∗ semZ c (wsem 1 t0_0) ∗ semZ c (wsem 2 t0_0)) ∗ (semZ c (win0_3.sem 0) ∗ semZ c (win0_3.sem 1))
    ∗ semZ c (wsem 4 t0_15) ∗ (semVal (sendCell c 0) 0 ∗ semVal (sendCell c 1) 0) ∗ recvZ c)

theorem recvZ_eq : (recvZ c : sProp 𝕄)
    = iprop(semZ c 8 ∗ semZ c 9 ∗ semZ c 10 ∗ semZ c 11 ∗ semZ c 12 ∗ semZ c 13 ∗ semZ c 14 ∗ semZ c 15) :=
  bigSep_univ_eq_bigSepL [(0 : Dev nD), 1, 2, 3, 4, 5, 6, 7] (by decide) (by decide) _

theorem sems_list : (scopedSems0 (c : Thread nD τ) : sProp 𝕄)
    = iprop(semZ c 0 ∗ semZ c 1 ∗ semZ c 2 ∗ semZ c 3 ∗ semZ c 4 ∗ semZ c 5 ∗ semZ c 6 ∗ semZ c 7
        ∗ semZ c 8 ∗ semZ c 9 ∗ semZ c 10 ∗ semZ c 11 ∗ semZ c 12 ∗ semZ c 13 ∗ semZ c 14 ∗ semZ c 15) := by
  rw [scopedSems0_tc, bigSep_eq_bigSepL_of_eq [SemLoc.dma (0 : DmaSem sig), .dma 1, .dma 2, .dma 3, .dma 4, .dma 5, .dma 6, .dma 7,
    .dma 8, .dma 9, .dma 10, .dma 11, .dma 12, .dma 13, .dma 14, .dma 15] (by decide) (by decide)]
  rfl

theorem sems_room : (scopedSems0 (c : Thread nD τ) : sProp 𝕄) ⊣⊢ roomS c := by
  rw [sems_list]
  unfold roomS
  rw [recvZ_eq]
  constructor
  · iintro ⟨H0, H1, H2, H3, H4, H5, H6, H7, HR⟩
    isplitl [H0 H1 H2]
    · isplitl [H0]; · iexact H0
      isplitl [H1]; · iexact H1
      iexact H2
    isplitl [H3 H4]
    · isplitl [H3]; · iexact H3
      iexact H4
    isplitl [H5]; · iexact H5
    isplitl [H6 H7]
    · isplitl [H6]; · iexact H6
      iexact H7
    iexact HR
  · iintro ⟨⟨H0, H1, H2⟩, ⟨H3, H4⟩, H5, ⟨H6, H7⟩, HR⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HR

/-! ## Putting the cells into use -/

/-- What device `c` gets at launch of the exchange's records: its place at its barrier cell, the rights to put its own
    cells into use, and the rights to pay. -/
def linear : sProp 𝕄 :=
  iprop(atPos ER (barCell c) 0 ∅ 0 ∗ ((openTok ER (sendCell c 0) ∗ openTok ER (sendCell c 1)) ∗ bigSep Finset.univ fun s : Dev nD => openTok ER (recvCell c s))
    ∗ (bigSep Finset.univ fun r : Dev nD => dutyTok ER (barCell r) 0 c) ∗ rtoks c ∗ (toks c 0 0 ∗ toks c 1 0))
/-- What it is to be paid. -/
def credit : sProp 𝕄 :=
  iprop(cred (tallyAt (barCell c) () 8) ∗ bigSep Finset.univ fun s : Dev nD => if s = c then iprop(emp) else cred (tallyAt (recvCell c s) () N))

theorem rows_split (f : Vec F S4096x1024 .f32) : (outPts c f : sProp 𝕄) ⊢ bigSep Finset.univ fun r : Dev nD => iprop(∃ f, rowPts c r f) := by
  have h := pointsTo_biUnion (Ix := Unit) (Name := ℕ) (U := UU) (Lvl := ℕ) (Val := Elt F) (ℓ := (c : Thread nD τ).loc cc0_stg4_0) (q := fullShare) (f := f)
    (Finset.univ : Finset (Dev nD)) rowSet (fun r _ r' _ hne => rows_disjoint hne)
  rw [rows_cover] at h
  refine (Entails.of_eq h).trans (bigSep_mono fun r _ => ?_)
  exact exists_intro (Φ := fun f => rowPts c r f) f
theorem slots_split (f : Vec F S2x512x1024 .f32) : (sbPts c f : sProp 𝕄) ⊢ iprop((∃ f, slotPts c 0 f) ∗ (∃ f, slotPts c 1 f)) := by
  have h := (pointsTo_union (Ix := Unit) (Name := ℕ) (U := UU) (Lvl := ℕ) (Val := Elt F) (ℓ := (c : Thread nD τ).loc cc0_scratch1) (q := fullShare) (f := f) slots_disjoint).1
  rw [slots_cover] at h
  refine h.trans ?_
  iintro ⟨H0, H1⟩
  isplitl [H0]
  · iexists f; iexact H0
  · iexists f; iexact H1

theorem open_cell (g : GSem nD τ sig) (hg : g ∈ barCells ∪ scCells) :
    iprop(recs m K ∗ openTok ER g ∗ semVal g 0) ⊢ (|={Set.univ}=> iprop(atPos ER g 0 ∅ 0 ∗ reached ER g 0) : sProp 𝕄) := by
  refine (?_ : _ ⊢ iprop(cellInv ER (rd m) (K g) g ∗ openTok ER g ∗ semVal g 0)).trans (Rounds.cell_open ER (rd m) (Set.mem_univ (K g)))
  iintro ⟨HR, H⟩
  isplitl [HR]; · iapply (inv_at m K hg); iexact HR
  iexact H

theorem open_recv :
    iprop(recs m K ∗ (bigSep Finset.univ fun s : Dev nD => openTok ER (recvCell c s)) ∗ recvZ c)
      ⊢ (|={Set.univ}=> iprop((bigSep Finset.univ fun s : Dev nD => atPos ER (recvCell c s) 0 ∅ 0) ∗ bigSep Finset.univ fun s : Dev nD => reached ER (recvCell c s) 0) : sProp 𝕄) := by
  have h : iprop(recs m K ∗ bigSep Finset.univ fun s : Dev nD => iprop(openTok ER (recvCell c s) ∗ semVal (recvCell c s) 0))
      ⊢ (bigSep Finset.univ fun s : Dev nD => iprop(|={Set.univ}=> (atPos ER (recvCell c s) 0 ∅ 0 ∗ reached ER (recvCell c s) 0)) : sProp 𝕄) :=
    bigSep_with_persistent (R := recs m K) (Φ := fun s : Dev nD => iprop(openTok ER (recvCell c s) ∗ semVal (recvCell c s) 0)) fun s _ => open_cell m K _ (recv_mem c s)
  unfold recvZ
  iintro ⟨#HR, Ho, Hz⟩
  ihave H := h $$ [Ho Hz]
  · isplitr; · iexact HR
    iapply sep_in
    isplitl [Ho]; · iexact Ho
    iexact Hz
  ihave H2 := (bigSep_fupd (Fr := frame) (E := Set.univ) Finset.univ (fun s : Dev nD => (iprop(atPos ER (recvCell c s) 0 ∅ 0 ∗ reached ER (recvCell c s) 0) : sProp 𝕄))) $$ H
  imod H2 with H3
  imodintro
  iapply sep_out
  iexact H3

theorem start_intro :
    iprop(recs m K ∗ linear c ∗ credit c ∗ (∃ W, owes (c : Thread nD τ) (oBar 0 + oRecv c 0) W) ∗ (∃ f, outPts c f) ∗ (∃ f, sbPts c f)
        ∗ (semVal (sendCell c 0) 0 ∗ semVal (sendCell c 1) 0) ∗ recvZ c)
      ⊢ (|={Set.univ}=> start m c : sProp 𝕄) := by
  unfold linear credit
  iintro ⟨#HR, ⟨HaB, ⟨⟨Ho0, Ho1⟩, HoR⟩, HtB, HtR, Ht0, Ht1⟩, ⟨HcB, HcR⟩, HO, ⟨%fo, Hout⟩, ⟨%fs, Hsb⟩, ⟨Hz0, Hz1⟩, HzR⟩
  imod (open_cell m K (sendCell c 0) (send_mem c 0)) $$ [Ho0 Hz0] with ⟨Ha0, Hr0⟩
  · isplitr; · iexact HR
    isplitl [Ho0] <;> iassumption
  imod (open_cell m K (sendCell c 1) (send_mem c 1)) $$ [Ho1 Hz1] with ⟨Ha1, Hr1⟩
  · isplitr; · iexact HR
    isplitl [Ho1] <;> iassumption
  imod (open_recv m K c) $$ [HoR HzR] with ⟨HaR, HrR⟩
  · isplitr; · iexact HR
    isplitl [HoR] <;> iassumption
  imodintro
  ihave Hs := (slots_split c fs) $$ Hsb
  icases Hs with ⟨Hs0, Hs1⟩
  unfold start slots hs rcv
  rw [slotAt_zero, slotAt_zero, tail_zero, tail_zero]
  unfold slotRes
  isplitl [Hout HrR HtB]
  · iapply sep_in
    isplitl [Hout]; · iapply (rows_split c fo); iexact Hout
    iapply sep_in
    isplitl [HrR]; · iexact HrR
    iexact HtB
  isplitl [HtR]; · iexact HtR
  isplitl [HcB HaB]; · isplitl [HcB] <;> iassumption
  isplitl [HO]; · iexact HO
  isplitl [Hs0 Ha0 Hr0 Ht0 Hs1 Ha1 Hr1 Ht1]
  · isplitl [Hs0 Ha0 Hr0 Ht0]
    · isplitl [Hs0]; · iexact Hs0
      isplitl [Ha0]; · iexact Ha0
      isplitl [Hr0] <;> iassumption
    isplitl [Hs1]; · iexact Hs1
    isplitl [Ha1]; · iexact Ha1
    isplitl [Hr1] <;> iassumption
  iapply sep_in
  isplitl [HaR]; · iexact HaR
  iexact HcR

/-! ## The region -/

/-- The arguments at what the launch put there. -/
def args : sProp 𝕄 := iprop((sxArr c (sxv m c) ∗ swArr c (swv m c) ∗ xArr c (xblk m c)) ∗ wPts c fullShare (wv m c))
abbrev resPts (f : Vec F S4096x1024 .f32) : sProp 𝕄 := (c : Thread nD τ).loc main_v1 ↦{fullShare} f

/-- What device `c` enters the kernel with. -/
def Entry : sProp 𝕄 :=
  iprop((args m c ∗ ∃ f, resPts c f) ∗ (∃ K, recs m K ∗ linear c) ∗ credit c ∗ ∃ W, owes (c : Thread nD τ) (oBar 0 + oRecv c 0) W)
/-- What it leaves it with. -/
def Exit : sProp 𝕄 :=
  iprop((args m c ∗ resPts c (outFinal m c)) ∗ semVal (barCell c) 0 ∗ ∃ W, owes (c : Thread nD τ) (0 : CellTallies nD τ sig Unit) W)

theorem leave : iprop(finish m c ∗ ins m c) ⊢ (iprop((roomB c ∗ roomS c) ∗ Exit m c) : sProp 𝕄) := by
  unfold finish ins consts done Free Exit args roomB roomS recvZ
  iintro ⟨⟨⟨Ssx, Ssw, Sx, Hxq⟩, ⟨Hout, Hsb, HO, ⟨Z0, Z1⟩, ZR, ZB⟩, ⟨W0, V0, A0⟩, ⟨W1, V1, A1⟩, Hv, V4⟩, ⟨Asx, Asw, Ax⟩, Vsx, Vsw, Vx⟩
  isplitl [Ssx Ssw Sx Hxq Hout Hsb Z0 Z1 ZR W0 V0 W1 V1 V4 Vsx Vsw Vx]
  · isplitl [Ssx Ssw Sx Hxq Hout Hsb W0 W1]
    · isplitl [Ssx]; · iexists _; iexact Ssx
      isplitl [Ssw]; · iexists _; iexact Ssw
      isplitl [Sx]; · iexists _; iexact Sx
      isplitl [W0]; · iexact W0
      isplitl [W1]; · iexact W1
      isplitl [Hout]; · iexists _; iexact Hout
      isplitl [Hxq]; · iexists _; iexact Hxq
      iexact Hsb
    isplitl [Vsx Vsw Vx]
    · isplitl [Vsx]; · iexact Vsx
      isplitl [Vsw] <;> iassumption
    isplitl [V0 V1]; · isplitl [V0] <;> iassumption
    isplitl [V4]; · iexact V4
    isplitl [Z0 Z1]; · isplitl [Z0] <;> iassumption
    iexact ZR
  isplitl [Asx Asw Ax A0 A1 Hv]
  · isplitl [Asx Asw Ax A0 A1]
    · isplitl [Asx Asw Ax]
      · isplitl [Asx]; · iexact Asx
        isplitl [Asw] <;> iassumption
      iapply (halves m c).2
      isplitl [A0] <;> iassumption
    iexact Hv
  isplitl [ZB]; · iexact ZB
  iexact HO

theorem inside (Q : PUnit.{1} → sProp 𝕄) :
    iprop(roomB c ∗ roomS c ∗ Entry m c ∗ ((roomB c ∗ roomS c) ∗ Exit m c -∗ Q ⟨⟩)) ⊢ wpl c (lev 0) (iter 0) Q := by
  unfold Entry args roomB
  rw [show (roomS c : sProp 𝕄) = iprop((semZ c (wsem 0 t0_0) ∗ semZ c (wsem 1 t0_0) ∗ semZ c (wsem 2 t0_0)) ∗ (semZ c (win0_3.sem 0) ∗ semZ c (win0_3.sem 1))
    ∗ semZ c (wsem 4 t0_15) ∗ (semVal (sendCell c 0) 0 ∗ semVal (sendCell c 1) 0) ∗ recvZ c) from rfl]
  iintro ⟨⟨Ssx, Ssw, Sx, W0, W1, Hout, Hxq, Hsb⟩, ⟨Hv012, ⟨V0, V1⟩, V4, Hz, HzR⟩, ⟨⟨⟨Harg, Hw⟩, Hres⟩, ⟨%K, #HR, Hlin⟩, Hcr, HO⟩, Hk⟩
  ihave Hw := (halves m c).1 $$ Hw
  icases Hw with ⟨A0, A1⟩
  unfold wpl
  iapply (fupd_wp (Fr := frame))
  imod (start_intro m K c) $$ [Hlin Hcr HO Hout Hsb Hz HzR] with Hst
  · isplitr; · iexact HR
    isplitl [Hlin]; · iexact Hlin
    isplitl [Hcr]; · iexact Hcr
    isplitl [HO]; · iexact HO
    isplitl [Hout]; · iexact Hout
    isplitl [Hsb]; · iexact Hsb
    isplitl [Hz]; · iexact Hz
    iexact HzR
  imodintro
  iapply (first_run m K c Q)
  isplitr; · iexact HR
  isplitl [Harg Hv012]; · unfold ins; isplitl [Harg] <;> iassumption
  isplitl [Ssx Ssw Sx]
  · unfold stages
    isplitl [Ssx]; · iexact Ssx
    isplitl [Ssw] <;> iassumption
  isplitl [Hxq]; · iexact Hxq
  isplitl [Hst]; · iexact Hst
  isplitl [W0 V0 A0 W1 V1 A1]
  · unfold Free
    isplitl [W0 V0 A0]
    · isplitl [W0]; · iexact W0
      isplitl [V0] <;> iassumption
    isplitl [W1]; · iexact W1
    isplitl [V1] <;> iassumption
  isplitl [Hres V4]; · unfold outside; isplitl [Hres] <;> iassumption
  iintro H
  ihave H2 := (leave m c) $$ H
  iapply Hk
  iexact H2

end Cert.Exchange
-- ==== Proof.Launch.lean ====
/-
  The launch: every device's holdings and records dealt, the one region run, the final memories read.
-/
module

public import proofs.«01_k».proof.Proof.Enter

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Cfg)

variable {F : FTy → Type} [FloatOps F]

local notation "𝕄" => MT nD τ sig Unit (Elt F) ℕ UU ℕ

variable (m : (ℓ : Loc nD τ sig) → Buf (Elt F) ℓ) (ρ : Dev nD → PrngReg)

/-! ## The one segment -/

theorem entry_prog (c : Dev nD) : (defs (F := F) (c : Thread nD τ).2 (Pipeline.entry (0 : Fin 1)) () : LP F PUnit)
    = .op (.assume ((pcfgs (F := F) 0).ok (adm 0).1) ((pcfgs (F := F) 0).decOk (adm 0).1)) fun _ => next 0 := by
  rfl

theorem enter_run (c : Dev nD) (Q : PUnit.{1} → sProp 𝕄) : wpl c (lev 0) (iter 0) Q ⊢ wpl c (some (.inr 19)) (next 0) Q := by
  unfold next
  iintro H
  iapply (wp_call (defs := defs (F := F)) 𝒱₀.lift (c : Thread nD τ) (some (Sum.inr 19)) Set.univ (Q := Q) (ℓ := Pipeline.pipe (0 : Fin 1)) (a := (adm 0, 0))
    (k := fun _ => .ret ⟨⟩) (Sum.inr 18) (fun u hu => by cases hu; exact Sum.Lex.inr (by decide)))
  iapply (wp_wand_r frame _ Set.univ)
  isplitl [H]; · iexact H
  iintro %x HQ
  rw [wp_ret]
  iapply fupd_intro
  iexact HQ

theorem region_run (c : Dev nD) {β : Type} (k : PUnit.{1} → LP F β) (Q : β → sProp 𝕄) :
    iprop((boundary (c : Thread nD τ) ∗ Exit m c -∗ wp frame (wpE (defs (F := F)) 𝒱₀.lift (c : Thread nD τ) none) Set.univ (k ⟨⟩) Q)
        ∗ boundary (c : Thread nD τ) ∗ Entry m c ∗ levAts L lv)
      ⊢ wp frame (wpE (defs (F := F)) 𝒱₀.lift (c : Thread nD τ) none) Set.univ (.op (.customCall (Pipeline.entry (0 : Fin 1)) ()) k) Q := by
  unfold boundary
  iintro ⟨Hk, ⟨HB, HS, Hidle⟩, HE, -⟩
  iapply (wp_customCall (defs := defs (F := F)) 𝒱₀.lift (c : Thread nD τ) none Set.univ (ℓ := Pipeline.entry (0 : Fin 1)) (a := ()) (k := k) (Q := Q)
    (Sum.inr 19 : 𝒱₀.lift.V) (fun u hu => by cases hu)) $$ HB
  iintro HB
  rw [entry_prog c]
  iapply (wp_assume (defs := defs (F := F)) 𝒱₀.lift (c : Thread nD τ) (some (Sum.inr 19)) Set.univ (adm (F := F) 0).2)
  iapply (enter_run c)
  iapply (inside m c)
  isplitl [HB]; · iapply (Entails.of_eq (bufs_room c)); iexact HB
  isplitl [HS]; · iapply (sems_room c).1; iexact HS
  isplitl [HE]; · iexact HE
  iintro ⟨⟨HB, HS⟩, HX⟩
  rw [kernelExitSpec_apply]
  isplitl [HS]; · iapply (sems_room c).2; iexact HS
  iintro HS
  isplitl [HB]; · iapply (Entails.of_eq (bufs_room c).symm); iexact HB
  iintro HB
  iapply Hk
  isplitr [HX]
  · isplitl [HB]; · iexact HB
    isplitl [HS] <;> iassumption
  iexact HX

def seg : Pipeline.HostSeg (Name := ℕ) (U := UU) (pcfgs (F := F)) defs₀ 𝒱₀ L lv where
  prog := Prog.lift (.customCall (Pipeline.entry 0) ())
  pre c := Entry m c
  post c := Exit m c
  run c _ k Q := region_run m c k Q

/-! ## What is owed at launch -/

def O₀ (c : Dev nD) : CellTallies nD τ sig Unit := oBar 0 + oRecv c 0

theorem oBar_bar (c : Dev nD) : oBar 0 (barCell c) () = 1 := by
  unfold oBar
  rw [from_zero, Finset.sum_apply, Finsupp.finset_sum_apply, Finset.sum_eq_single c]
  · rw [tallyAt_apply, if_pos ⟨rfl, rfl⟩]
  · intro r _ hr
    rw [tallyAt_apply, if_neg fun h => hr (barEmb_inj h.1).symm]
  · exact fun h => absurd (Finset.mem_univ c) h
theorem oRecv_bar (d c : Dev nD) : oRecv d 0 (barCell c) () = 0 := by
  rcases Nat.eq_zero_or_pos (oRecv d 0 (barCell c) ()) with h | h
  · exact h
  · obtain ⟨t, h⟩ := oRecv_pos h
    exact absurd (congrArg Prod.snd h) (fun h => by cases h)
theorem oBar_recv (c s : Dev nD) : oBar 0 (recvCell c s) () = 0 := by
  rcases Nat.eq_zero_or_pos (oBar 0 (recvCell c s) ()) with h | h
  · exact h
  · obtain ⟨t, h⟩ := oBar_pos h
    exact absurd (congrArg Prod.snd h) (fun h => by cases h)
theorem recv_inj {c s c' s' : Dev nD} (h : recvCell c s = recvCell c' s') : c = c' ∧ s = s' := by
  refine ⟨congrArg (fun g : GSem nD τ sig => g.1.1) h, ?_⟩
  have h2 : recvS s = recvS s' := SemLoc.dma.inj (congrArg Prod.snd h)
  have h3 : 8 + s.val = 8 + s'.val := congrArg Fin.val h2
  exact Fin.ext (by omega)
theorem oRecv_recv (d c s : Dev nD) : oRecv d 0 (recvCell c s) () = if d = s then (if s = c then 0 else N) else 0 := by
  unfold oRecv
  rw [from_zero, Finset.sum_apply, Finsupp.finset_sum_apply, Finset.sum_eq_single c]
  · by_cases hc : c = d
    · subst hc
      rw [if_pos rfl, Pi.zero_apply, Finsupp.zero_apply]
      by_cases hs : c = s
      · rw [if_pos hs, if_pos hs.symm]
      · rw [if_neg hs]
    · rw [if_neg hc, tallyAt_apply]
      by_cases hs : d = s
      · subst hs
        rw [if_pos ⟨rfl, rfl⟩, if_pos rfl, if_neg fun h => hc h.symm]
      · rw [if_neg fun h => hs (recv_inj h.1).2.symm, if_neg hs]
  · intro t _ ht
    split
    · rfl
    · rw [tallyAt_apply, if_neg fun h => ht (recv_inj h.1).1.symm]
  · exact fun h => absurd (Finset.mem_univ c) h

theorem launch_bar (c : Dev nD) :
    tallyOn (barCell c) (launchCredit (Pipeline.owing O₀) 0 (barCell c)) = (tallyAt (barCell c) () 8 : CellTallies nD τ sig Unit) := by
  unfold tallyAt; refine congrArg _ (Finsupp.ext fun u => ?_); cases u
  rw [Pipeline.launchCredit_owing, Finsupp.single_eq_same, Finset.sum_congr rfl fun d _ => show O₀ d (barCell c) () = 1 from by
    unfold O₀; rw [Pi.add_apply, Finsupp.add_apply, oBar_bar, oRecv_bar]]
  decide
theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => show O₀ d (recvCell c s) () = if d = s then N else 0 from by
    unfold O₀; rw [Pi.add_apply, Finsupp.add_apply, oBar_recv, oRecv_recv, Nat.zero_add, if_neg h], Finset.sum_ite_eq' Finset.univ s fun _ => N,
    if_pos (Finset.mem_univ _)]

theorem creds (c : Dev nD) : (Pipeline.launchCred O₀ c : sProp 𝕄) ⊢ credit c := by
  unfold Pipeline.launchCred credit
  rw [bigSep_univ_at _ (SemLoc.reg barS), launch_bar]
  refine sep_mono_right ?_
  let e : Dev nD ↪ SemLoc sig := ⟨fun s => .dma (recvS s), fun s s' h => (recv_inj (c := c) (c' := c) (s := s) (s' := s') (Prod.ext rfl h)).2⟩
  have hsub : Finset.univ.map e ⊆ Finset.univ.erase (SemLoc.reg barS) := by
    intro sm hsm
    obtain ⟨s, -, rfl⟩ := Finset.mem_map.mp hsm
    exact Finset.mem_erase.mpr ⟨fun h => (by cases h), Finset.mem_univ _⟩
  refine (bigSep_subset hsub).trans ?_
  rw [bigSep_map]
  refine bigSep_mono fun s _ => ?_
  by_cases h : s = c
  · rw [if_pos h]; exact fun _ _ => trivial
  · rw [if_neg h, ← launch_recv c s h]
    exact Entails.refl _

/-! ## The records dealt -/

/-- The rights to pay, by payer: a unit to each barrier cell, a copy to each receive cell, a slot's copies in its rounds. -/
abbrev Pays : Type := Dev nD ⊕ (Dev nD ⊕ (Fin 2 × Fin 4))
def pays (c : Dev nD) : Pays → GSem nD τ sig × ℕ × Dev nD
  | .inl r => (barCell r, 0, c)
  | .inr (.inl t) => (recvCell t c, 0, c)
  | .inr (.inr (σ, k)) => (sendCell c σ, k.val, c)

theorem recv_ne_send (t c d : Dev nD) (σ : Fin 2) : recvCell t c ≠ sendCell d σ := by
  intro h
  have h2 : recvS c = sendS σ := SemLoc.dma.inj (congrArg Prod.snd h)
  have h3 : 8 + c.val = 6 + σ.val := congrArg Fin.val h2
  omega
theorem send_inj {c : Dev nD} {σ σ' : Fin 2} (h : sendCell c σ = sendCell c σ') : σ = σ' := by
  have h2 : sendS σ = sendS σ' := SemLoc.dma.inj (congrArg Prod.snd h)
  have h3 : 6 + σ.val = 6 + σ'.val := congrArg Fin.val h2
  exact Fin.ext (by omega)
theorem bar_ne_dma (r d : Dev nD) (x : DmaSem sig) : barCell r ≠ ((d : Thread nD τ), .dma x) := by
  intro h
  have h2 : SemLoc.reg barS = SemLoc.dma x := congrArg Prod.snd h
  cases h2

theorem pays_inj : Function.Injective fun p : Dev nD × Pays => pays p.1 p.2 := by
  rintro ⟨c, a⟩ ⟨c', a'⟩ h
  have hc : c = c' := by
    rcases a with r | t | ⟨σ, k⟩ <;> rcases a' with r' | t' | ⟨σ', k'⟩ <;> exact congrArg (fun x : GSem nD τ sig × ℕ × Dev nD => x.2.2) h
  subst hc
  rcases a with r | t | ⟨σ, k⟩ <;> rcases a' with r' | t' | ⟨σ', k'⟩
  · obtain rfl : r = r' := barEmb_inj (congrArg Prod.fst h)
    rfl
  · exact absurd (congrArg Prod.fst h) (bar_ne_dma _ _ _)
  · exact absurd (congrArg Prod.fst h) (bar_ne_dma _ _ _)
  · exact absurd (congrArg Prod.fst h).symm (bar_ne_dma _ _ _)
  · obtain rfl : t = t' := (recv_inj (congrArg Prod.fst h)).1
    rfl
  · exact absurd (congrArg Prod.fst h) (recv_ne_send _ _ _ _)
  · exact absurd (congrArg Prod.fst h).symm (bar_ne_dma _ _ _)
  · exact absurd (congrArg Prod.fst h).symm (recv_ne_send _ _ _ _)
  · obtain rfl : σ = σ' := send_inj (congrArg Prod.fst h)
    obtain rfl : k = k' := Fin.ext (congrArg (fun x : GSem nD τ sig × ℕ × Dev nD => x.2.1) h)
    rfl

def allToks : Finset (GSem nD τ sig × ℕ × Dev nD) := Finset.univ.map ⟨fun p : Dev nD × Pays => pays p.1 p.2, pays_inj⟩

theorem slot_toks (c : Dev nD) (σ : Fin 2) :
    (bigSep Finset.univ fun k : Fin 4 => (dutyTok ER (sendCell c σ) k.val c : sProp 𝕄)) ⊢ toks c σ 0 := by
  unfold toks
  rw [tail_zero]
  refine bigSep_mono fun k _ => ?_
  by_cases h : k.val + σ.val < 4
  · rw [if_pos h]; exact Entails.refl _
  · rw [if_neg h]; exact fun _ _ => trivial

theorem toks_dealt : (bigSep allToks fun x => (dutyTok ER x.1 x.2.1 x.2.2 : sProp 𝕄))
    ⊢ bigSep Finset.univ fun c : Dev nD => iprop((bigSep Finset.univ fun r : Dev nD => dutyTok ER (barCell r) 0 c) ∗ rtoks c ∗ (toks c 0 0 ∗ toks c 1 0)) := by
  unfold allToks
  rw [bigSep_map, bigSep_univ_prod]
  refine bigSep_mono fun c _ => ?_
  rw [bigSep_univ_sum, bigSep_univ_sum, bigSep_univ_prod, bigSep_fin_two]
  have ht : (bigSep Finset.univ fun t : Dev nD => (dutyTok ER (recvCell t c) 0 c : sProp 𝕄)) ⊢ rtoks c := by
    unfold rtoks
    refine bigSep_mono fun t _ => ?_
    by_cases h : t = c
    · rw [if_pos h]; exact fun _ _ => trivial
    · rw [if_neg h]; exact Entails.refl _
  show iprop((bigSep Finset.univ fun r : Dev nD => dutyTok ER (barCell r) 0 c) ∗ (bigSep Finset.univ fun t : Dev nD => dutyTok ER (recvCell t c) 0 c)
    ∗ ((bigSep Finset.univ fun k : Fin 4 => dutyTok ER (sendCell c 0) k.val c) ∗ bigSep Finset.univ fun k : Fin 4 => dutyTok ER (sendCell c 1) k.val c)) ⊢ _
  iintro ⟨HB, HR, H0, H1⟩
  isplitl [HB]; · iexact HB
  isplitl [HR]; · iapply ht; iexact HR
  isplitl [H0]; · iapply (slot_toks c 0); iexact H0
  iapply (slot_toks c 1); iexact H1

theorem opens_dealt : (bigSep scCells fun g => (openTok ER g : sProp 𝕄))
    ⊢ bigSep Finset.univ fun c : Dev nD => iprop((openTok ER (sendCell c 0) ∗ openTok ER (sendCell c 1)) ∗ bigSep Finset.univ fun s : Dev nD => openTok ER (recvCell c s)) := by
  unfold scCells
  rw [bigSep_map, bigSep_univ_prod]
  refine bigSep_mono fun c _ => ?_
  show (_ : sProp 𝕄) ⊢ iprop((openTok ER (sendCell c 0) ∗ openTok ER (sendCell c 1)) ∗ bigSep Finset.univ fun s : Dev nD => openTok ER (recvCell c s))
  rw [bigSep_univ_eq_bigSepL [(0 : Fin 10), 1, 2, 3, 4, 5, 6, 7, 8, 9] (by decide) (by decide),
    bigSep_univ_eq_bigSepL [(0 : Dev nD), 1, 2, 3, 4, 5, 6, 7] (by decide) (by decide)]
  show iprop(openTok ER (sendCell c 0) ∗ openTok ER (sendCell c 1) ∗ openTok ER (recvCell c 0) ∗ openTok ER (recvCell c 1) ∗ openTok ER (recvCell c 2)
      ∗ openTok ER (recvCell c 3) ∗ openTok ER (recvCell c 4) ∗ openTok ER (recvCell c 5) ∗ openTok ER (recvCell c 6) ∗ openTok ER (recvCell c 7))
    ⊢ iprop((openTok ER (sendCell c 0) ∗ openTok ER (sendCell c 1)) ∗ openTok ER (recvCell c 0) ∗ openTok ER (recvCell c 1) ∗ openTok ER (recvCell c 2)
      ∗ openTok ER (recvCell c 3) ∗ openTok ER (recvCell c 4) ∗ openTok ER (recvCell c 5) ∗ openTok ER (recvCell c 6) ∗ openTok ER (recvCell c 7))
  iintro ⟨H0, H1, H⟩
  isplitl [H0 H1]
  · isplitl [H0]; · iexact H0
    iexact H1
  iexact H

theorem disjoint_cells : Disjoint barCells scCells := by
  rw [Finset.disjoint_left]
  intro g h₁ h₂
  obtain ⟨c, -, rfl⟩ := Finset.mem_map.mp h₁
  obtain ⟨ck, -, h⟩ := Finset.mem_map.mp h₂
  exact bar_ne_dma c ck.1 (osem ck.2) h.symm

/-! ## The launch -/

/-- A resource dealt to device 0 alone. -/
def onFirst (X : sProp 𝕄) (c : Dev nD) : sProp 𝕄 := if c = 0 then X else iprop(emp)
theorem bigSep_onFirst (X : sProp 𝕄) : bigSep Finset.univ (onFirst X) ⊣⊢ X := by
  rw [bigSep_univ_at _ (0 : Dev nD)]
  constructor
  · unfold onFirst
    rw [if_pos rfl]
    iintro ⟨H, -⟩; iexact H
  · unfold onFirst
    rw [if_pos rfl]
    have h : (iprop(emp) : sProp 𝕄) ⊢ bigSep (Finset.univ.erase (0 : Dev nD)) fun c => if c = 0 then X else iprop(emp) := by
      rw [bigSep_congr (s := Finset.univ.erase (0 : Dev nD)) (Φ := fun c => if c = 0 then X else iprop(emp)) (Ψ := fun _ => (BI.emp : sProp 𝕄)) fun c hc => if_neg (Finset.ne_of_mem_erase hc), BI.bigSep_emp_const]
      exact Entails.refl _
    iintro H
    isplitl [H]; · iexact H
    iapply h
    iempintro

def dealt : UB := launchOf barCells scCells allToks
def u₀ : UU := (initOf (Pipeline.cells (Pipeline.pin (pcfgs (F := F)) adm) cellOf_inj) (Pipeline.launchToks (Pipeline.pin (pcfgs (F := F)) adm) cellOf_inj),
  (dealt, (1 : Counters)))
def G : Dev nD → sProp 𝕄 := onFirst (BI.own (ER dealt))

theorem dealt_own : (ownU (u₀ (F := F)) : sProp 𝕄)
    ⊢ iprop(BI.own (EP (initOf (Pipeline.cells (Pipeline.pin (pcfgs (F := F)) adm) cellOf_inj) (Pipeline.launchToks (Pipeline.pin (pcfgs (F := F)) adm) cellOf_inj)))
        ∗ bigSep Finset.univ (G (F := F))) := by
  unfold u₀
  iintro Hu
  ihave H := (ownU_pair _ _) $$ Hu
  icases H with ⟨HP, HX⟩
  ihave H2 := (own_pair_emb _ _ _) $$ HX
  icases H2 with ⟨HX, -⟩
  isplitl [HP]; · iexact HP
  unfold G
  iapply (bigSep_onFirst _).2
  iexact HX

theorem unscoped_bufs (c : Dev nD) : (unscopedBufs c (fun b => m ((c : Thread nD τ).loc b)) : sProp 𝕄) ⊢ iprop(args m c ∗ ∃ f, resPts c f) := by
  unfold unscopedBufs args
  rw [bigSep_eq_bigSepL_of_eq [main_arg0, main_arg1, main_arg2, main_arg3, main_v1] (by decide) (by decide)]
  show iprop(xArr c (xblk m c) ∗ wPts c fullShare (wv m c) ∗ sxArr c (sxv m c) ∗ swArr c (swv m c) ∗ resPts c (m ((c : Thread nD τ).loc main_v1))) ⊢ _
  iintro ⟨H0, H1, H2, H3, H4⟩
  isplitl [H0 H1 H2 H3]
  · isplitl [H0 H2 H3]
    · isplitl [H2]; · iexact H2
      isplitl [H3]; · iexact H3
      iexact H0
    iexact H1
  iexists _; iexact H4

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch holdings is not of the exchange's records. -/
def bundle (c : Dev nD) : sProp 𝕄 :=
  iprop((args m c ∗ ∃ f, resPts c f) ∗ credit c ∗ ∃ W, owes (c : Thread nD τ) (oBar 0 + oRecv c 0) W)

theorem entry_intro (K : GSem nD τ sig → ℕ) (c : Dev nD) : iprop(recs m K ∗ (linear c ∗ bundle m c)) ⊢ Entry m c := by
  unfold bundle Entry
  iintro ⟨#HR, Hl, Ha, Hc, HO⟩
  isplitl [Ha]; · iexact Ha
  isplitl [Hl]
  · iexists K
    isplitr; · iexact HR
    iexact Hl
  isplitl [Hc] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (Entry m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [unscoped_sems]
    unfold bundle
    iintro ⟨Hb, Hs, HO, Hcr, -, HG⟩
    isplitl [Hb HO Hcr]
    · isplitl [Hb]; · iapply (unscoped_bufs m c); iexact Hb
      isplitl [Hcr]; · iapply (creds c); iexact Hcr
      iexists ∅; iexact HO
    isplitl [Hs] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  iintro ⟨H, #Hlev⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := sep_out $$ H'; icases H2 with ⟨HB, H3⟩
  ihave H4 := sep_out $$ H3; icases H4 with ⟨Hv, HG⟩
  ihave Hu := (show bigSep Finset.univ (G (F := F)) ⊢ BI.own (ER dealt) from (bigSep_onFirst _).1) $$ HG
  imod (Rounds.fund_launch ER (rd m) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := recs m κ) (Φ := fun c => iprop(linear c ∗ bundle m c)) fun c _ => entry_intro m κ c)
  isplitr
  · unfold recs
    isplitr; · iexact Hinv
    isplitr; · iapply hre; iexact Hr
    iexact Hlev
  iapply sep_in
  isplitr [HB]
  · unfold linear
    iapply sep_in; isplitl [Hat]; · iapply hat $$ Hat
    iapply sep_in; isplitl [Hopen]; · iapply opens_dealt; iexact Hopen
    iapply toks_dealt; iexact Htok
  · iexact HB

/-! ## The run -/

/-- The pipeline library's proof data, which a region run by hand leaves unused. -/
def pdats : (p : Fin 1) → (c : Dev nD) → Pipeline.Dat τ (Elt F) Unit ℕ UU ℕ (Pipeline.pin (pcfgs (F := F)) adm p) c := fun p c =>
  { A := fun w => m _
    after := Pipeline.Dat.unnamed
    Φ := fun _ => iprop(emp)
    q := fun _ => fullShare
    owed := fun _ => 0 }

def segs : List (Pipeline.Seg (pcfgs (F := F)) adm (pdats m) () defs₀ 𝒱₀ L lv) := [.host (seg m)]

theorem main_eq (c : Dev nD) : main (F := F) c = Pipeline.Seg.run (segs m) := by
  rw [main_chain]
  rfl

theorem unscoped_eq : ∀ sm : SemLoc sig, sm.isScoped .tc = false → sm = .reg barS := by decide

abbrev Tₙ (c : Dev nD) : sProp 𝕄 := iprop((args m c ∗ resPts c (outFinal m c)) ∗ semVal (barCell c) 0)

set_option backward.isDefEq.respectTransparency.types false in
/-- From any memory with zero counters every fair run of the kernel ends, leaving the arguments as they were, the result as
    `outFinal` says and every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ r.2.mem ((c : Thread nD τ).loc main_v1) = outFinal m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_nil]; decide)
    (O₀ := O₀) (hL := L_of_ne) (G := G) (u₀ := u₀)
    (hu₀ := dealt_own.trans fupd_intro)
    (T₀ := Entry m) (Tₙ := Tₙ m)
    (hch := by
      refine ⟨fun c => .rfl, fun c => ?_⟩
      show Exit m c ⊢ iprop(Tₙ m c ∗ ∃ W, owes (c : Thread nD τ) (0 : CellTallies nD τ sig Unit) W)
      unfold Exit
      iintro ⟨Ha, Hb, HO⟩
      isplitr [HO]
      · isplitl [Ha] <;> iassumption
      · iexact HO)
    (hinit := init m ρ)
    (QY := fun c s => ((s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3))
        ∧ s.mem ((c : Thread nD τ).loc main_v1) = outFinal m c) ∧ s.sem (barCell c) = 0)
    (hfin := fun c s' => by
      dsimp only [Tₙ]; unfold args
      iintro ⟨⟨⟨⟨⟨H2, H3, H0⟩, H1⟩, Hv⟩, Hb⟩, HSI⟩
      icombine HSI H0 gives %h0
      icombine HSI H1 gives %h1
      icombine HSI H2 gives %h2
      icombine HSI H3 gives %h3
      icombine HSI Hv gives %hv
      icombine HSI Hb gives %hb
      imodintro
      isplitr
      · ipureintro
        exact ⟨⟨⟨Buf.eq_of_forall_mem_univ h0, Buf.eq_of_forall_mem_univ h1, Buf.eq_of_forall_mem_univ h2, Buf.eq_of_forall_mem_univ h3⟩,
          Buf.eq_of_forall_mem_univ hv⟩, by simpa using hb⟩
      iexact HSI)
    (hQ := fun s h hs => ⟨fun c => (h c).1, sem_eq_zero hs fun c sm hsm => by
        obtain rfl := unscoped_eq sm hsm
        exact (h c).2⟩)

end Cert.Exchange
-- ==== Proof.RefValue.lean ====
/-
  What the reference leaves: its one call computes the whole product and scales it.
-/
module

public import proofs.«01_k».proof.Proof.Gen.ReferenceIdeal.Value
public import Idealize.ShloMosaic.Lib.Pipeline.ValueKit
public import Idealize.ShloMosaic.Lib.Pipeline.ReadBack
public import Idealize.ShloMosaic.Lib.ValueIdx
public import Idealize.ShloMosaic.Lib.MatmulPlain

@[expose] public section

noncomputable section

namespace Cert.Exchange.Ref

open Cert.ReferenceIdeal Cert.ReferenceIdeal.Gen
open Idealize.ShloMosaic Idealize.ShloMosaic.TcCoe
open Idealize.SL.Sem
open Idealize.ShloMosaic.ValueIdx Idealize.ShloMosaic.ValueKit
open Idealize.ShloMosaic.Pipeline (Dat)

variable {F : FTy → Type} [FloatOps F]
variable (m : (ℓ : Loc nD τ sig) → Buf (Elt F) ℓ) (ρ : Dev nD → PrngReg)

/-- The scaled product of the arguments as device `c` holds them. -/
def whole (c : Dev nD) : S4096x8192.Idx → F .f32 :=
  k0_pay1 (m ((c : Thread nD τ).loc main_arg0) : Vec F S4096x4096 .fp8e4m3) (m ((c : Thread nD τ).loc main_arg1) : Vec F S4096x8192 .fp8e4m3)
    ((m ((c : Thread nD τ).loc main_arg2) : Vec F S1 .f32) (ValueIdx.ix1 0)) ((m ((c : Thread nD τ).loc main_arg3) : Vec F S1 .f32) (ValueIdx.ix1 0))

theorem iblk_0 (c : Dev nD) (t : Fin cfg0.N) : iblk m c 0 t = m ((c : Thread nD τ).loc main_arg0) := by
  funext y
  refine congrArg (m ((c : Thread nD τ).loc main_arg0)) ?_
  funext a; apply Fin.ext
  blk_simp
  exact (congrArg (· + (y a).val) (Nat.zero_mul _)).trans (Nat.zero_add _)
theorem iblk_1 (c : Dev nD) (t : Fin cfg0.N) : iblk m c 1 t = m ((c : Thread nD τ).loc main_arg1) := by
  funext y
  refine congrArg (m ((c : Thread nD τ).loc main_arg1)) ?_
  funext a; apply Fin.ext
  blk_simp
  exact (congrArg (· + (y a).val) (Nat.zero_mul _)).trans (Nat.zero_add _)
theorem iblk_2 (c : Dev nD) (t : Fin cfg0.N) : iblk m c 2 t = m ((c : Thread nD τ).loc main_arg2) := by
  funext y
  refine congrArg (m ((c : Thread nD τ).loc main_arg2)) ?_
  funext a; apply Fin.ext
  blk_simp
  exact (congrArg (· + (y a).val) (Nat.zero_mul _)).trans (Nat.zero_add _)
theorem iblk_3 (c : Dev nD) (t : Fin cfg0.N) : iblk m c 3 t = m ((c : Thread nD τ).loc main_arg3) := by
  funext y
  refine congrArg (m ((c : Thread nD τ).loc main_arg3)) ?_
  funext a; apply Fin.ext
  blk_simp
  exact (congrArg (· + (y a).val) (Nat.zero_mul _)).trans (Nat.zero_add _)

theorem arr_eq (c : Dev nD) : (dats m 0 c).arrAt 4 cfg0.N = whole m c := by
  refine (dats m 0 c).arrAt_eq_of_covers 4 _ (by decide +kernel) fun t hf y => ?_
  blk_simp
  rw [after0_4]
  unfold outsAt0
  frame_out
  simp only [read_unread_whole]
  rw [iblk_0, iblk_1, iblk_2, iblk_3]
  have hy : (((View.whole main_v0).slice (win0_4.rect t)).emb y : S4096x8192.Idx) = y := by
    funext a; apply Fin.ext
    blk_simp
    exact (congrArg (· + (y a).val) (Nat.zero_mul _)).trans (Nat.zero_add _)
  unfold whole
  rw [hy]
  have hx : ∀ (i j : S1.Idx), i = j := fun i j => by
    funext a; obtain rfl := Subsingleton.elim a 0; exact Subsingleton.elim (α := Fin 1) _ _
  rw [hx (Shape.Idx.first _) (ValueIdx.ix1 0)]

/-- The reference's run: the result's array holds the scaled product, the arguments are unchanged. -/
theorem run : θ_run defs (onTc (τ := τ) (main (F := F))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr_eq m c), (h c).2⟩) (Cert.ReferenceIdeal.Value.run_blocks m ρ)

end Cert.Exchange.Ref

end
-- ==== Proof.Value.lean ====
/-
  The value: every element of the block device `c` holds in the end is the reference's at the same place, both the sum
  over the contracted axis times the product of the scales.
-/
module

public import proofs.«01_k».proof.Proof.Launch
public import proofs.«01_k».proof.Proof.RefValue
public import Idealize.ShloMosaic.Lib.Layout

@[expose] public section

noncomputable section

namespace Cert.Exchange

open Idealize.ShloMosaic Idealize.ShloMosaic.TcCoe
open Idealize.SL.Sem
open Idealize.ShloMosaic.ValueIdx

/-! ## The two products at an element -/

theorem kernel_dims : Cert.KernelIdeal.dot_S512x4096_S4096x512_S512x512_1_0_0_1_n_n = DotDims.plain 512 4096 512 := rfl
theorem reference_dims : Cert.ReferenceIdeal.dot_S4096x4096_S4096x8192_S4096x8192_1_0_0_1_n_n = DotDims.plain 4096 4096 8192 := rfl

/-- One tile of the kernel at an element. -/
theorem tile_apply (s : Ideal .f32) (x : Vec Ideal Cert.KernelIdeal.S512x4096 .fp8e4m3) (w : Vec Ideal Cert.KernelIdeal.S4096x512 .fp8e4m3)
    (p : Fin 512) (q : Fin 512) :
    Cert.KernelIdeal.Gen.k0_pay2 s (Cert.KernelIdeal.Gen.k0_pay1 x) w (ValueIdx.ix2 p q) = (∑ k : Fin 4096, x (ValueIdx.ix2 p k) * w (ValueIdx.ix2 k q)) * s := by
  unfold Cert.KernelIdeal.Gen.k0_pay2 Cert.KernelIdeal.Gen.k0_pay1
  simp only [shapeCast_self]
  rw [ValueIdx.mulf_apply, ValueIdx.broadcast_apply]
  refine congrArg (· * s) ?_
  simp only [matmul]
  rw [kernel_dims, Ideal.matmul_plain_apply, ValueIdx.constant_apply, Ideal.ofBits_zero_f32, zero_add]

/-- The reference at an element. -/
theorem reference_apply (x : Vec Ideal Cert.ReferenceIdeal.S4096x4096 .fp8e4m3) (w : Vec Ideal Cert.ReferenceIdeal.S4096x8192 .fp8e4m3)
    (a b : Ideal .f32) (p : Fin 4096) (q : Fin 8192) :
    Cert.ReferenceIdeal.Gen.k0_pay1 x w a b (ValueIdx.ix2 p q) = (∑ k : Fin 4096, x (ValueIdx.ix2 p k) * w (ValueIdx.ix2 k q)) * Scalar.mulf a b := by
  unfold Cert.ReferenceIdeal.Gen.k0_pay1
  rw [ValueIdx.mulf_apply, ValueIdx.broadcast_apply]
  refine congrArg (· * Scalar.mulf a b) ?_
  simp only [matmul]
  rw [reference_dims, Ideal.matmul_plain_apply, ValueIdx.constant_apply, Ideal.ofBits_zero_f32, zero_add]

/-! ## The blocks -/

section Blocks

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's arguments, as it finds them. -/
abbrev refX : Vec Ideal Cert.ReferenceIdeal.S4096x4096 .fp8e4m3 :=
  m' (((0 : Dev Cert.ReferenceIdeal.nD) : Thread Cert.ReferenceIdeal.nD Cert.ReferenceIdeal.τ).loc Cert.ReferenceIdeal.main_arg0)
abbrev refW : Vec Ideal Cert.ReferenceIdeal.S4096x8192 .fp8e4m3 :=
  m' (((0 : Dev Cert.ReferenceIdeal.nD) : Thread Cert.ReferenceIdeal.nD Cert.ReferenceIdeal.τ).loc Cert.ReferenceIdeal.main_arg1)
abbrev refSx : Vec Ideal Cert.ReferenceIdeal.S1 .f32 :=
  m' (((0 : Dev Cert.ReferenceIdeal.nD) : Thread Cert.ReferenceIdeal.nD Cert.ReferenceIdeal.τ).loc Cert.ReferenceIdeal.main_arg2)
abbrev refSw : Vec Ideal Cert.ReferenceIdeal.S1 .f32 :=
  m' (((0 : Dev Cert.ReferenceIdeal.nD) : Thread Cert.ReferenceIdeal.nD Cert.ReferenceIdeal.τ).loc Cert.ReferenceIdeal.main_arg3)

/-- Where rows `512 s …` of `x` lie. -/
theorem x_idx (s : Fin 8) (p : Fin 512) (k : Fin 4096) (h : Layout.Tiles ⟨2, ![512, 4096]⟩ ⟨2, ![4096, 4096]⟩ 0 8) :
    h.idx s (ValueIdx.ix2 p k) = ValueIdx.ix2 (⟨512 * s.val + p.val, by omega⟩ : Fin 4096) k := by
  funext a; apply Fin.ext
  match a with
  | ⟨0, _⟩ => show s.val * 512 + p.val = 512 * s.val + p.val; omega
  | ⟨1, _⟩ => rfl
/-- Where element `y` of rows `512 s …` of block `c` of the result lies. -/
theorem out_idx (c s : Dev Cert.KernelIdeal.nD) (y : Cert.KernelIdeal.S512x1024.Idx) (h : Layout.Tiles ⟨2, ![4096, 1024]⟩ ⟨2, ![4096, 8192]⟩ 1 8) :
    h.idx c (ridx s y) = ValueIdx.ix2 (⟨512 * s.val + (y 0).val, by have := s.isLt; change s.val < 8 at this; have := idx2_lt0 y; omega⟩ : Fin 4096)
      (⟨1024 * c.val + (y 1).val, by have := c.isLt; change c.val < 8 at this; have := idx2_lt1 y; omega⟩ : Fin 8192) := by
  funext a; apply Fin.ext
  match a with
  | ⟨0, _⟩ => rfl
  | ⟨1, _⟩ => show c.val * 1024 + (y 1).val = 1024 * c.val + (y 1).val; omega

/-- What device `c` holds in the end is its block of the reference's result. -/
theorem block_eq
    (h0 : ∀ c, xblk m c = Layout.block ⟨2, ![512, 4096]⟩ ⟨2, ![4096, 4096]⟩ 0 8 c (refX m'))
    (h1 : ∀ c : Dev Cert.KernelIdeal.nD, m ((c : Thread Cert.KernelIdeal.nD Cert.KernelIdeal.τ).loc Cert.KernelIdeal.main_arg1) = refW m')
    (h2 : ∀ c, sxv m c = refSx m') (h3 : ∀ c, swv m c = refSw m') (c : Dev Cert.KernelIdeal.nD) :
    outFinal m c = Layout.block ⟨2, ![4096, 1024]⟩ ⟨2, ![4096, 8192]⟩ 1 8 c (Ref.whole m' 0) := by
  funext x
  obtain ⟨s, y, rfl⟩ := ridx_surj x
  have hy := idx2_lt1 y
  rw [outFinal_ridx, Layout.block_apply, out_idx]
  unfold sent tile Ref.whole scl
  refine (tile_apply _ _ _ _ _).trans (Eq.trans ?_ (reference_apply _ _ _ _ _ _).symm)
  rw [h0, h2, h3]
  unfold Cert.KernelIdeal.Gen.k0_pay4
  refine congrArg (· * _) (Finset.sum_congr rfl fun k _ => ?_)
  rw [Layout.block_apply]
  refine congrArg₂ (· * ·) (congrArg (refX m') (x_idx s (y 0) k _)) ?_
  unfold wblk
  rw [h1]
  refine congrArg (refW m') ?_
  funext a; apply Fin.ext
  match a with
  | ⟨0, _⟩ => rfl
  | ⟨1, _⟩ => show 512 * (2 * c.val + (y 1).val / 512) + (y 1).val % 512 = 1024 * c.val + (y 1).val; omega

end Blocks

end Cert.Exchange

end
-- ==== Proof.Same.lean ====
/-
  The printed kernel and the ideal one have the same text: their tables of functions and their main programs are equal
  over any one reading of the floats.
-/
module

public import proofs.«01_k».proof.Defs
public import proofs.«01_k».proof.Proof.Gen.Kernel
public import proofs.«01_k».proof.Proof.Gen.KernelIdeal

@[expose] public section

noncomputable section

namespace Cert.Exchange

open Idealize.ShloMosaic Idealize.ShloMosaic.TcCoe Idealize.SL.Sem

/-- One function. -/
theorem body_same : @Cert.Kernel.cc0_body Bits _ _ = @Cert.KernelIdeal.cc0_body Bits _ _ := rfl

/-- The kernels' table. -/
theorem table_same : @Cert.Kernel.defs₀ Bits _ _ = @Cert.KernelIdeal.defs₀ Bits _ _ := by
  unfold Cert.Kernel.defs₀ Cert.KernelIdeal.defs₀
  refine congrArg Defs.onTc ?_
  funext ℓ a
  obtain rfl : ℓ = 0 := Subsingleton.elim (α := Fin 1) _ _
  obtain ⟨t, s⟩ := a
  exact congrFun (congrFun (congrFun (congrFun (congrFun (congrFun (congrFun (congrFun (congrFun (congrFun (congrFun (congrFun (congrFun (congrFun (congrFun (congrFun (congrFun body_same _) _) _) _) _) _) _) _) _) _) _) _) _) _) _) _) _

/-- The whole table. -/
theorem defs_same : @Cert.Kernel.defs Bits _ _ = @Cert.KernelIdeal.defs Bits _ _ := by
  unfold Cert.Kernel.defs Cert.KernelIdeal.defs
  exact congrArg (Pipeline.defs (Cert.KernelIdeal.pcfgs (F := Bits))) table_same

/-- The main program. -/
theorem main_same : @Cert.Kernel.main Bits _ = @Cert.KernelIdeal.main Bits _ := rfl

end Cert.Exchange

end
-- ==== Proof.lean ====
/-
  The claims, put together: the two kernels' frames and the value from the one run of `Cert.Exchange.run_main`, the
  reference's frame from its generated one, and the equation of the two results from `Cert.Exchange.block_eq`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.Gen.ReferenceIdeal.Launch
public import proofs.«01_k».proof.Proof.Gen.ReferenceIdeal.Frame
public import proofs.«01_k».proof.Proof.Launch
public import proofs.«01_k».proof.Proof.RefValue
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem

/-- The kernel runs, returns its arguments unchanged and leaves every counter at zero, over any reading of the floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3))
        ∧ r.2.sem = fun _ => 0) :=
  (θ_run Cert.KernelIdeal.defs _ _).mono (fun _ h => ⟨fun c => (h.1 c).1, h.2⟩) (Cert.Exchange.run_main (F := F) m ρ)

/-- The printed kernel's frame: its text is the ideal program's. -/
theorem kernel_frame : Cert.quiescent_Kernel := fun m ρ _ => by
  rw [Cert.Exchange.defs_same, Cert.Exchange.main_same]
  exact frame_any (F := Bits) m ρ

/-- The ideal program's frame. -/
theorem ideal_frame : Cert.quiescent_KernelIdeal := fun m ρ _ => frame_any (F := Ideal) m ρ

/-- Each device ends with its block of the columns of the reference's result. -/
theorem value : Cert.algebraic_KernelIdeal_ReferenceIdeal := fun m g m' g' _ hm =>
  ⟨Cert.Exchange.Ref.whole m' 0,
    (θ_run Cert.KernelIdeal.defs _ _).mono (fun _ h c => ⟨(h.1 c).2.trans
      (Cert.Exchange.block_eq m m' (fun c => (hm c).1) (fun c => (hm c).2.1) (fun c => (hm c).2.2.1) (fun c => (hm c).2.2.2) c), (h.1 c).1⟩)
      (Cert.Exchange.run_main (F := Ideal) m g),
    (θ_run Cert.ReferenceIdeal.defs _ _).mono (fun _ h => h 0) (Cert.Exchange.Ref.run (F := Ideal) m' g')⟩

theorem claim : Cert.Claim :=
  ⟨Cert.Kernel.Gen.facts, Cert.KernelIdeal.Gen.facts, Cert.ReferenceIdeal.Gen.facts, kernel_frame, ideal_frame,
    fun m ρ _ => Cert.ReferenceIdeal.Gen.frame m ρ, trivial, value⟩

end Cert.Proof

end
